-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16384x1024 : Shape := ⟨2, ![16384, 1024]⟩
abbrev S16384x128 : Shape := ⟨2, ![16384, 128]⟩
abbrev S8x8x128x128 : Shape := ⟨4, ![8, 8, 128, 128]⟩
abbrev S128 : Shape := ⟨1, ![128]⟩
abbrev S_ : Shape := ⟨0, ![]⟩

class Facts : Prop where
  bcast_S_S16384x1024 : S_.BroadcastsInDim S16384x1024 (![] : Fin 0 → Fin S16384x1024.rank)
  bcast_S_S16384x128 : S_.BroadcastsInDim S16384x128 (![] : Fin 0 → Fin S16384x128.rank)
  bcast_S_S8x8x128x128 : S_.BroadcastsInDim S8x8x128x128 (![] : Fin 0 → Fin S8x8x128x128.rank)

variable [Facts]

def fn {F : FTy → Type} [FloatOps F] (main_arg0 : FVec F S16384x1024 .f32) (main_arg1 : FVec F S16384x1024 .f32) (main_arg2 : FVec F S16384x1024 .f32) (main_arg3 : FVec F S16384x128 .f32) (main_arg4 : FVec F S16384x1024 .f32) (main_arg5 : FVec F S8x8x128x128 .f32) (main_arg6 : FVec F S128 .f32) : IVec S16384x1024 1 × IVec S16384x1024 1 × IVec S16384x1024 1 × IVec S16384x128 1 × IVec S8x8x128x128 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x128 .f32 := Host.absf main_arg3
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_v12 : FVec F S8x8x128x128 .f32 := Host.absf main_arg5
  let main_cst_3 : FVec F S_ .f32 := constant S_ .f32 0x7F800000#32
  let main_v13 : FVec F S8x8x128x128 .f32 := broadcastInDim S8x8x128x128 ![] bcast_S_S8x8x128x128 main_cst_3
  let main_v14 : IVec S8x8x128x128 1 := cmpf .olt main_v12 main_v13
  (main_v2, main_v5, main_v8, main_v11, main_v14)
-- ==== Kernel.lean ====
abbrev S16384x1024 : Shape := ⟨2, ![16384, 1024]⟩
abbrev S16384x128 : Shape := ⟨2, ![16384, 128]⟩
abbrev S8x8x128x128 : Shape := ⟨4, ![8, 8, 128, 128]⟩
abbrev S128 : Shape := ⟨1, ![128]⟩
abbrev S8x128x8x128 : Shape := ⟨4, ![8, 128, 8, 128]⟩
abbrev S8x128x1024 : Shape := ⟨3, ![8, 128, 1024]⟩
abbrev S1x128 : Shape := ⟨2, ![1, 128]⟩
abbrev S128x1024 : Shape := ⟨2, ![128, 1024]⟩
abbrev S128x128 : Shape := ⟨2, ![128, 128]⟩
abbrev S1x128x1024 : Shape := ⟨3, ![1, 128, 1024]⟩
abbrev S64x64 : Shape := ⟨2, ![64, 64]⟩
abbrev S64x128 : Shape := ⟨2, ![64, 128]⟩
abbrev S128x64 : Shape := ⟨2, ![128, 64]⟩
abbrev S256x256 : Shape := ⟨2, ![256, 256]⟩
abbrev S256x1 : Shape := ⟨2, ![256, 1]⟩
abbrev S256x128 : Shape := ⟨2, ![256, 128]⟩
abbrev S64x1 : Shape := ⟨2, ![64, 1]⟩
abbrev S1x64 : Shape := ⟨2, ![1, 64]⟩
abbrev S1x256 : Shape := ⟨2, ![1, 256]⟩
abbrev S1x1 : Shape := ⟨2, ![1, 1]⟩
abbrev S512x128 : Shape := ⟨2, ![512, 128]⟩
abbrev S512x256 : Shape := ⟨2, ![512, 256]⟩
abbrev S128x512 : Shape := ⟨2, ![128, 512]⟩
abbrev S512x512 : Shape := ⟨2, ![512, 512]⟩
abbrev S128x256 : Shape := ⟨2, ![128, 256]⟩
abbrev S256x512 : Shape := ⟨2, ![256, 512]⟩
abbrev S1x512 : Shape := ⟨2, ![1, 512]⟩
abbrev S256 : Shape := ⟨1, ![256]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x1024, .f32⟩
  | .hbm, ⟨5, _⟩ => ⟨S8x8x128x128, .f32⟩
  | .hbm, ⟨6, _⟩ => ⟨S128, .f32⟩
  | .hbm, ⟨7, _⟩ => ⟨S8x128x8x128, .f32⟩
  | .hbm, ⟨8, _⟩ => ⟨S8x128x1024, .f32⟩
  | .hbm, ⟨9, _⟩ => ⟨S1x128, .f32⟩
  | .hbm, ⟨10, _⟩ => ⟨S16384x1024, .bf16⟩
  | .hbm, ⟨11, _⟩ => ⟨S8x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128, .f32⟩
  | .local _ .vmem, ⟨13, _⟩ => ⟨S128x1024, .bf16⟩
  | .local _ .vmem, ⟨14, _⟩ => ⟨S128x1024, .bf16⟩
  | .local _ .vmem, ⟨15, _⟩ => ⟨S1x128x1024, .f32⟩
  | .local _ .vmem, ⟨16, _⟩ => ⟨S1x128x1024, .f32⟩
  | .local _ .vmem, ⟨17, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16384x1024 : Shape := ⟨2, ![16384, 1024]⟩
abbrev S16384x128 : Shape := ⟨2, ![16384, 128]⟩
abbrev S8x8x128x128 : Shape := ⟨4, ![8, 8, 128, 128]⟩
abbrev S128 : Shape := ⟨1, ![128]⟩
abbrev S8x2048x8x128 : Shape := ⟨4, ![8, 2048, 8, 128]⟩
abbrev S2048x8x8x128 : Shape := ⟨4, ![2048, 8, 8, 128]⟩
abbrev S8x2048x128 : Shape := ⟨3, ![8, 2048, 128]⟩
abbrev S2048x8x128 : Shape := ⟨3, ![2048, 8, 128]⟩
abbrev S2048x8x8 : Shape := ⟨3, ![2048, 8, 8]⟩
abbrev S_ : Shape := ⟨0, ![]⟩
abbrev S1x8x8x128 : Shape := ⟨4, ![1, 8, 8, 128]⟩
abbrev S8x8x128 : Shape := ⟨3, ![8, 8, 128]⟩
abbrev S1x8x8 : Shape := ⟨3, ![1, 8, 8]⟩
abbrev S8x8 : Shape := ⟨2, ![8, 8]⟩
abbrev S8x8x1x1 : Shape := ⟨4, ![8, 8, 1, 1]⟩
abbrev S8x8x1 : Shape := ⟨3, ![8, 8, 1]⟩
abbrev S8x8x128x1 : Shape := ⟨4, ![8, 8, 128, 1]⟩
abbrev S8x8x1x128 : Shape := ⟨4, ![8, 8, 1, 128]⟩
abbrev S2048x8x8x1 : Shape := ⟨4, ![2048, 8, 8, 1]⟩
abbrev S1x1x1x128 : Shape := ⟨4, ![1, 1, 1, 128]⟩
abbrev S8x128x8x128 : Shape := ⟨4, ![8, 128, 8, 128]⟩
abbrev S8x128x1024 : Shape := ⟨3, ![8, 128, 1024]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x1024, .f32⟩
  | .hbm, ⟨5, _⟩ => ⟨S8x8x128x128, .f32⟩
  | .hbm, ⟨6, _⟩ => ⟨S128, .f32⟩
  | .hbm, ⟨7, _⟩ => ⟨S8x2048x8x128, .f32⟩
  | .hbm, ⟨8, _⟩ => ⟨S2048x8x8x128, .f32⟩
  | .hbm, ⟨9, _⟩ => ⟨S8x2048x8x128, .f32⟩
  | .hbm, ⟨10, _⟩ => ⟨S2048x8x8x128, .f32⟩
  | .hbm, ⟨11, _⟩ => ⟨S8x2048x8x128, .f32⟩
  | .hbm, ⟨12, _⟩ => ⟨S2048x8x8x128, .f32⟩
  | .hbm, ⟨13, _⟩ => ⟨S8x2048x8x128, .f32⟩
  | .hbm, ⟨14, _⟩ => ⟨S2048x8x8x128, .f32⟩
  | .hbm, ⟨15, _⟩ => ⟨S8x2048x128, .f32⟩
  | .hbm, ⟨16, _⟩ => ⟨S2048x8x128, .f32⟩
  | .hbm, ⟨17, _⟩ => ⟨S2048x8x8, .f32⟩
  | .hbm, ⟨18, _⟩ => ⟨S2048x8x8, .f32⟩
  | .hbm, ⟨19, _⟩ => ⟨S_, .f32⟩
  | .hbm, ⟨20, _⟩ => ⟨S2048x8x8x128, .f32⟩
  | .hbm, ⟨21, _⟩ => ⟨S_, .i32⟩
  | .hbm, ⟨22, _⟩ => ⟨S2048x8x8x128, .f32⟩
  | .hbm, ⟨23, _⟩ => ⟨S2048x8x8x128, .f32⟩
  | .hbm, ⟨24, _⟩ => ⟨S2048x8x8x128, .f32⟩
  | .hbm, ⟨25, _⟩ => ⟨S2048x8x8, .f32⟩
  | .hbm, ⟨26, _⟩ => ⟨S2048x8x8, .f32⟩
  | .hbm, ⟨27, _⟩ => ⟨S_, .i32⟩
  | .hbm, ⟨28, _⟩ => ⟨S8x8x128x128, .f32⟩
  | .hbm, ⟨29, _⟩ => ⟨S2048x8x8x128, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x8x8x128, .f32⟩
  | .hbm, ⟨36, _⟩ => ⟨S8x8x128, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x8x8x128, .f32⟩
  | .hbm, ⟨41, _⟩ => ⟨S8x8x128, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x8x8x128, .f32⟩
  | .hbm, ⟨46, _⟩ => ⟨S8x8x128, .f32⟩
  | .hbm, ⟨47, _⟩ => ⟨S_, .i32⟩
  | .hbm, ⟨48, _⟩ => ⟨S_, .i32⟩
  | .hbm, ⟨49, _⟩ => ⟨S1x8x8, .f32⟩
  | .hbm, ⟨50, _⟩ => ⟨S8x8, .f32⟩
  | .hbm, ⟨51, _⟩ => ⟨S_, .i32⟩
  | .hbm, ⟨52, _⟩ => ⟨S_, .i32⟩
  | .hbm, ⟨53, _⟩ => ⟨S1x8x8, .f32⟩
  | .hbm, ⟨54, _⟩ => ⟨S8x8, .f32⟩
  | .hbm, ⟨55, _⟩ => ⟨S8x8, .f32⟩
  | .hbm, ⟨56, _⟩ => ⟨S8x8x1x1, .f32⟩
  | .hbm, ⟨57, _⟩ => ⟨S8x8x128x128, .f32⟩
  | .hbm, ⟨58, _⟩ => ⟨S8x8x128x128, .f32⟩
  | .hbm, ⟨59, _⟩ => ⟨S8x8x1, .f32⟩
  | .hbm, ⟨60, _⟩ => ⟨S8x8x128, .f32⟩
  | .hbm, ⟨61, _⟩ => ⟨S8x8x128, .f32⟩
  | .hbm, ⟨62, _⟩ => ⟨S8x8x128, .f32⟩
  | .hbm, ⟨63, _⟩ => ⟨S8x8x128, .f32⟩
  | .hbm, ⟨64, _⟩ => ⟨S8x8x128x1, .f32⟩
  | .hbm, ⟨65, _⟩ => ⟨S8x8x1x128, .f32⟩
  | .hbm, ⟨66, _⟩ => ⟨S8x8x128x128, .f32⟩
  | .hbm, ⟨67, _⟩ => ⟨S8x8x128x128, .f32⟩
  | .hbm, ⟨68, _⟩ => ⟨S8x8x128x128, .f32⟩
  | .hbm, ⟨69, _⟩ => ⟨S8x8x128x128, .f32⟩
  | .hbm, ⟨70, _⟩ => ⟨S8x8x128, .f32⟩
  | .hbm, ⟨71, _⟩ => ⟨S1x8x8x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S2048x8x8x128, .f32⟩
  | .hbm, ⟨76, _⟩ => ⟨S_, .i32⟩
  | .hbm, ⟨77, _⟩ => ⟨S_, .i32⟩
  | .hbm, ⟨78, _⟩ => ⟨S2048x8x8x128, .f32⟩
  | .hbm, ⟨79, _⟩ => ⟨S_, .f32⟩
  | .hbm, ⟨80, _⟩ => ⟨S2048x8x8, .f32⟩
  | .hbm, ⟨81, _⟩ => ⟨S2048x8x8x1, .f32⟩
  | .hbm, ⟨82, _⟩ => ⟨S_, .f32⟩
  | .hbm, ⟨83, _⟩ => ⟨S2048x8x8x1, .f32⟩
  | .hbm, ⟨84, _⟩ => ⟨S2048x8x8x1, .f32⟩
  | .hbm, ⟨85, _⟩ => ⟨S_, .f32⟩
  | .hbm, ⟨86, _⟩ => ⟨S2048x8x8x1, .f32⟩
  | .hbm, ⟨87, _⟩ => ⟨S2048x8x8x1, .f32⟩
  | .hbm, ⟨88, _⟩ => ⟨S2048x8x8x1, .f32⟩
  | .hbm, ⟨89, _⟩ => ⟨S2048x8x8x128, .f32⟩
  | .hbm, ⟨90, _⟩ => ⟨S2048x8x8x128, .f32⟩
  | .hbm, ⟨91, _⟩ => ⟨S1x1x1x128, .f32⟩
  | .hbm, ⟨92, _⟩ => ⟨S2048x8x8x128, .f32⟩
  | .hbm, ⟨93, _⟩ => ⟨S2048x8x8x128, .f32⟩
  | .hbm, ⟨94, _⟩ => ⟨S2048x8x8x128, .f32⟩
  | .hbm, ⟨95, _⟩ => ⟨S2048x8x8x128, .f32⟩
  | .hbm, ⟨96, _⟩ => ⟨S_, .f32⟩
  | .hbm, ⟨97, _⟩ => ⟨S2048x8x8x128, .f32⟩
  | .hbm, ⟨98, _⟩ => ⟨S2048x8x8x128, .f32⟩
  | .hbm, ⟨99, _⟩ => ⟨S_, .f32⟩
  | .hbm, ⟨100, _⟩ => ⟨S2048x8x8x128, .f32⟩
  | .hbm, ⟨101, _⟩ => ⟨S2048x8x8x128, .f32⟩
  | .hbm, ⟨102, _⟩ => ⟨S2048x8x8x128, .f32⟩
  | .hbm, ⟨103, _⟩ => ⟨S2048x8x8x128, .f32⟩
  | .hbm, ⟨104, _⟩ => ⟨S8x2048x8x128, .f32⟩
  | .hbm, ⟨105, _⟩ => ⟨S16384x1024, .f32⟩
  | .hbm, ⟨106, _⟩ => ⟨S16384x1024, .bf16⟩
  | .hbm, ⟨107, _⟩ => ⟨S8x128x8x128, .f32⟩
  | .hbm, ⟨108, _⟩ => ⟨S8x128x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_while0c_c_12 : Ref sig .tc := ⟨.hbm, 30, rfl⟩
abbrev main_while0c_v40 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_c_1 : Ref sig .tc := ⟨.hbm, 34, rfl⟩
abbrev main_while0b_call0_v0 : Ref sig .tc := ⟨.hbm, 35, rfl⟩
abbrev main_while0b_v40 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_v0 : Ref sig .tc := ⟨.hbm, 40, rfl⟩
abbrev main_while0b_v41 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_c_1 : Ref sig .tc := ⟨.hbm, 44, rfl⟩
abbrev main_while0b_call2_v0 : Ref sig .tc := ⟨.hbm, 45, rfl⟩
abbrev main_while0b_v42 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_call3_v0 : Ref sig .tc := ⟨.hbm, 49, rfl⟩
abbrev main_while0b_v43 : Ref sig .tc := ⟨.hbm, 50, rfl⟩
abbrev main_while0b_call4_c : Ref sig .tc := ⟨.hbm, 51, rfl⟩
abbrev main_while0b_call4_c_0 : Ref sig .tc := ⟨.hbm, 52, rfl⟩
abbrev main_while0b_call4_v0 : Ref sig .tc := ⟨.hbm, 53, rfl⟩
abbrev main_while0b_v44 : Ref sig .tc := ⟨.hbm, 54, rfl⟩
abbrev main_while0b_v45 : Ref sig .tc := ⟨.hbm, 55, rfl⟩
abbrev main_while0b_v46 : Ref sig .tc := ⟨.hbm, 56, rfl⟩
abbrev main_while0b_v47 : Ref sig .tc := ⟨.hbm, 57, rfl⟩
abbrev main_while0b_v48 : Ref sig .tc := ⟨.hbm, 58, rfl⟩
abbrev main_while0b_v49 : Ref sig .tc := ⟨.hbm, 59, rfl⟩
abbrev main_while0b_v50 : Ref sig .tc := ⟨.hbm, 60, rfl⟩
abbrev main_while0b_v51 : Ref sig .tc := ⟨.hbm, 61, rfl⟩
abbrev main_while0b_v52 : Ref sig .tc := ⟨.hbm, 62, rfl⟩
abbrev main_while0b_v53 : Ref sig .tc := ⟨.hbm, 63, rfl⟩
abbrev main_while0b_v54 : Ref sig .tc := ⟨.hbm, 64, rfl⟩
abbrev main_while0b_v55 : Ref sig .tc := ⟨.hbm, 65, rfl⟩
abbrev main_while0b_v56 : Ref sig .tc := ⟨.hbm, 66, rfl⟩
abbrev main_while0b_v57 : Ref sig .tc := ⟨.hbm, 67, rfl⟩
abbrev main_while0b_v58 : Ref sig .tc := ⟨.hbm, 68, rfl⟩
abbrev main_while0b_v59 : Ref sig .tc := ⟨.hbm, 69, rfl⟩
abbrev main_while0b_v60 : Ref sig .tc := ⟨.hbm, 70, rfl⟩
abbrev main_while0b_call5_v0 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_c_1 : Ref sig .tc := ⟨.hbm, 74, rfl⟩
abbrev main_while0b_v61 : Ref sig .tc := ⟨.hbm, 75, rfl⟩
abbrev main_while0b_c_12 : Ref sig .tc := ⟨.hbm, 76, rfl⟩
abbrev main_while0b_v62 : Ref sig .tc := ⟨.hbm, 77, rfl⟩
abbrev main_v14 : Ref sig .tc := ⟨.hbm, 78, rfl⟩
abbrev main_cst_0 : Ref sig .tc := ⟨.hbm, 79, rfl⟩
abbrev main_v15 : Ref sig .tc := ⟨.hbm, 80, rfl⟩
abbrev main_v16 : Ref sig .tc := ⟨.hbm, 81, rfl⟩
abbrev main_cst_1 : Ref sig .tc := ⟨.hbm, 82, rfl⟩
abbrev main_v17 : Ref sig .tc := ⟨.hbm, 83, rfl⟩
abbrev main_v18 : Ref sig .tc := ⟨.hbm, 84, rfl⟩
abbrev main_cst_2 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_3 : Ref sig .tc := ⟨.hbm, 96, rfl⟩
abbrev main_v29 : Ref sig .tc := ⟨.hbm, 97, rfl⟩
abbrev main_v30 : Ref sig .tc := ⟨.hbm, 98, rfl⟩
abbrev main_cst_4 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16384x1024 : Shape := ⟨2, ![16384, 1024]⟩
abbrev S16384x2048 : Shape := ⟨2, ![16384, 2048]⟩
abbrev S8x1x2048 : Shape := ⟨3, ![8, 1, 2048]⟩
abbrev S512x1024 : Shape := ⟨2, ![512, 1024]⟩
abbrev S512x2048 : Shape := ⟨2, ![512, 2048]⟩
abbrev S2x256x2048 : Shape := ⟨3, ![2, 256, 2048]⟩
abbrev S2048 : Shape := ⟨1, ![2048]⟩
abbrev S2048x2048 : Shape := ⟨2, ![2048, 2048]⟩
abbrev S2048x256 : Shape := ⟨2, ![2048, 256]⟩
abbrev S1x128 : Shape := ⟨2, ![1, 128]⟩
abbrev S1x2048 : Shape := ⟨2, ![1, 2048]⟩
abbrev S16896x2048 : Shape := ⟨2, ![16896, 2048]⟩
abbrev S16896x128 : Shape := ⟨2, ![16896, 128]⟩
abbrev S256x1024 : Shape := ⟨2, ![256, 1024]⟩
abbrev S256x2048 : Shape := ⟨2, ![256, 2048]⟩
abbrev S1x1x2048 : Shape := ⟨3, ![1, 1, 2048]⟩
abbrev S1x256x2048 : Shape := ⟨3, ![1, 256, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩
abbrev S2048x128 : Shape := ⟨2, ![2048, 128]⟩

abbrev nBuf : Space → Nat
  | .hbm => 20
  | .vmem => 34
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S8x1x2048, .f32⟩
  | .hbm, ⟨4, _⟩ => ⟨S8x1x2048, .f32⟩
  | .hbm, ⟨5, _⟩ => ⟨S8x1x2048, .f32⟩
  | .hbm, ⟨6, _⟩ => ⟨S512x1024, .bf16⟩
  | .hbm, ⟨7, _⟩ => ⟨S512x1024, .bf16⟩
  | .hbm, ⟨8, _⟩ => ⟨S512x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2048, .f32⟩
  | .hbm, ⟨13, _⟩ => ⟨S2048x2048, .bf16⟩
  | .hbm, ⟨14, _⟩ => ⟨S2048x256, .bf16⟩
  | .hbm, ⟨15, _⟩ => ⟨S1x128, .f32⟩
  | .hbm, ⟨16, _⟩ => ⟨S1x2048, .f32⟩
  | .hbm, ⟨17, _⟩ => ⟨S16896x2048, .f32⟩
  | .hbm, ⟨18, _⟩ => ⟨S16896x2048, .f32⟩
  | .hbm, ⟨19, _⟩ => ⟨S16896x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2048, .f32⟩
  | .local _ .vmem, ⟨17, _⟩ => ⟨S256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S1x2048, .f32⟩
  | .local _ .vmem, ⟨25, _⟩ => ⟨S2048x2048, .bf16⟩
  | .local _ .vmem, ⟨26, _⟩ => ⟨S2048x256, .bf16⟩
  | .local _ .vmem, ⟨27, _⟩ => ⟨S1x128, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x128, .f32⟩
  | .local _ .vmem, ⟨33, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v1_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![66], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 3 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 3 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S16384x1024 : Shape := ⟨2, ![16384, 1024]⟩
abbrev S16384x2048 : Shape := ⟨2, ![16384, 2048]⟩
abbrev S8x1x2048 : Shape := ⟨3, ![8, 1, 2048]⟩
abbrev S512x1024 : Shape := ⟨2, ![512, 1024]⟩
abbrev S512x2048 : Shape := ⟨2, ![512, 2048]⟩
abbrev S2x256x2048 : Shape := ⟨3, ![2, 256, 2048]⟩
abbrev S2048 : Shape := ⟨1, ![2048]⟩
abbrev S2048x2048 : Shape := ⟨2, ![2048, 2048]⟩
abbrev S2048x256 : Shape := ⟨2, ![2048, 256]⟩
abbrev S1x128 : Shape := ⟨2, ![1, 128]⟩
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S512 : Shape := ⟨1, ![512]⟩
abbrev S512x1 : Shape := ⟨2, ![512, 1]⟩
abbrev S1x2048 : Shape := ⟨2, ![1, 2048]⟩
abbrev S16896x2048 : Shape := ⟨2, ![16896, 2048]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S8x1x2048, .f32⟩
  | .hbm, ⟨4, _⟩ => ⟨S8x1x2048, .f32⟩
  | .hbm, ⟨5, _⟩ => ⟨S8x1x2048, .f32⟩
  | .hbm, ⟨6, _⟩ => ⟨S512x1024, .bf16⟩
  | .hbm, ⟨7, _⟩ => ⟨S512x1024, .bf16⟩
  | .hbm, ⟨8, _⟩ => ⟨S512x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2048, .f32⟩
  | .hbm, ⟨13, _⟩ => ⟨S2048x2048, .bf16⟩
  | .hbm, ⟨14, _⟩ => ⟨S2048x256, .bf16⟩
  | .hbm, ⟨15, _⟩ => ⟨S1x128, .f32⟩
  | .hbm, ⟨16, _⟩ => ⟨S8x2048x1024, .bf16⟩
  | .hbm, ⟨17, _⟩ => ⟨S8x2048x1024, .bf16⟩
  | .hbm, ⟨18, _⟩ => ⟨S8x2048x2048, .f32⟩
  | .hbm, ⟨19, _⟩ => ⟨S8x2048x2048, .bf16⟩
  | .hbm, ⟨20, _⟩ => ⟨S8x2048x2048, .f32⟩
  | .hbm, ⟨21, _⟩ => ⟨S2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S1x1x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | .hbm, ⟨43, _⟩ => ⟨S_, .f32⟩
  | .hbm, ⟨44, _⟩ => ⟨S8x1x2048, .f32⟩
  | .hbm, ⟨45, _⟩ => ⟨S8x1x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S16384x2048, .f32⟩
  | .hbm, ⟨51, _⟩ => ⟨S512x2048, .f32⟩
  | .hbm, ⟨52, _⟩ => ⟨S512x2048, .f32⟩
  | .hbm, ⟨53, _⟩ => ⟨S512x2048, .f32⟩
  | .hbm, ⟨54, _⟩ => ⟨S512x2048, .bf16⟩
  | .hbm, ⟨55, _⟩ => ⟨S512x2048, .f32⟩
  | .hbm, ⟨56, _⟩ => ⟨S2048x2048, .f32⟩
  | .hbm, ⟨57, _⟩ => ⟨S512x2048, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S_, .f32⟩
  | .hbm, ⟨62, _⟩ => ⟨S512, .f32⟩
  | .hbm, ⟨63, _⟩ => ⟨S512x1, .f32⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S512x1, .f32⟩
  | .hbm, ⟨71, _⟩ => ⟨S512x2048, .f32⟩
  | .hbm, ⟨72, _⟩ => ⟨S512x2048, .f32⟩
  | .hbm, ⟨73, _⟩ => ⟨S1x2048, .f32⟩
  | .hbm, ⟨74, _⟩ => ⟨S512x2048, .f32⟩
  | .hbm, ⟨75, _⟩ => ⟨S512x2048, .f32⟩
  | .hbm, ⟨76, _⟩ => ⟨S_, .f32⟩
  | .hbm, ⟨77, _⟩ => ⟨S512x2048, .f32⟩
  | .hbm, ⟨78, _⟩ => ⟨S512x2048, .f32⟩
  | .hbm, ⟨79, _⟩ => ⟨S512x2048, .f32⟩
  | .hbm, ⟨80, _⟩ => ⟨S512x2048, .f32⟩
  | .hbm, ⟨81, _⟩ => ⟨S16896x2048, .f32⟩
  | .hbm, ⟨82, _⟩ => ⟨S16896x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel3.lean ====
abbrev S16384x2048 : Shape := ⟨2, ![16384, 2048]⟩
abbrev S8x1x2048 : Shape := ⟨3, ![8, 1, 2048]⟩
abbrev S2048 : Shape := ⟨1, ![2048]⟩
abbrev S2048x6912 : Shape := ⟨2, ![2048, 6912]⟩
abbrev S1x2048 : Shape := ⟨2, ![1, 2048]⟩
abbrev S16384x6912 : Shape := ⟨2, ![16384, 6912]⟩
abbrev S256x2048 : Shape := ⟨2, ![256, 2048]⟩
abbrev S1x1x2048 : Shape := ⟨3, ![1, 1, 2048]⟩
abbrev S256x6912 : Shape := ⟨2, ![256, 6912]⟩
abbrev S256 : Shape := ⟨1, ![256]⟩
abbrev S256x1 : Shape := ⟨2, ![256, 1]⟩
abbrev S2048x1152 : Shape := ⟨2, ![2048, 1152]⟩
abbrev S256x1152 : Shape := ⟨2, ![256, 1152]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S8x1x2048, .f32⟩
  | .hbm, ⟨2, _⟩ => ⟨S8x1x2048, .f32⟩
  | .hbm, ⟨3, _⟩ => ⟨S2048, .f32⟩
  | .hbm, ⟨4, _⟩ => ⟨S2048x6912, .bf16⟩
  | .hbm, ⟨5, _⟩ => ⟨S1x2048, .f32⟩
  | .hbm, ⟨6, _⟩ => ⟨S16384x6912, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x6912, .bf16⟩
  | .local _ .vmem, ⟨8, _⟩ => ⟨S256x6912, .f32⟩
  | .local _ .vmem, ⟨9, _⟩ => ⟨S256x6912, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6912 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S8x1x2048 : Shape := ⟨3, ![8, 1, 2048]⟩
abbrev S2048 : Shape := ⟨1, ![2048]⟩
abbrev S2048x6912 : Shape := ⟨2, ![2048, 6912]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x6912 : Shape := ⟨3, ![8, 2048, 6912]⟩
abbrev S16384x6912 : Shape := ⟨2, ![16384, 6912]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x1x2048, .f32⟩
  | .hbm, ⟨2, _⟩ => ⟨S8x1x2048, .f32⟩
  | .hbm, ⟨3, _⟩ => ⟨S2048, .f32⟩
  | .hbm, ⟨4, _⟩ => ⟨S2048x6912, .bf16⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S2048x6912, .f32⟩
  | .hbm, ⟨30, _⟩ => ⟨S8x2048x6912, .f32⟩
  | .hbm, ⟨31, _⟩ => ⟨S16384x6912, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Body.lean ====
module

public import proofs.«01_k».proof.Defs
public import proofs.«01_k».proof.Proof.Gen.KernelIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.KernelIdeal.Body
open Cert.KernelIdeal Cert.KernelIdeal.Gen

/-- One chunk's cumulated gates: the lower triangular product of the gates, given in three parts. -/
def gcV (bg : FVec Ideal S64x128 .f32) : FVec Ideal S64x128 .f32 :=
  let lt : FVec Ideal S64x64 .bf16 := truncf .bf16 (sitofp (F := Ideal) .f32 (extui 32 (cmpi .sge (iota .tc S64x64 32 [0] iota_S64x64_d0_w32) (iota .tc S64x64 32 [1] iota_S64x64_d1_w32)) natLt_1_32)) bitsLt_bf16_f32
  let g1 : FVec Ideal S64x128 .bf16 := truncf .bf16 bg bitsLt_bf16_f32
  let r1 : FVec Ideal S64x128 .f32 := subf bg (extf .f32 g1 bitsLt_bf16_f32)
  let g2 : FVec Ideal S64x128 .bf16 := truncf .bf16 r1 bitsLt_bf16_f32
  let g3 : FVec Ideal S64x128 .bf16 := truncf .bf16 (subf r1 (extf .f32 g2 bitsLt_bf16_f32)) bitsLt_bf16_f32
  let mm (g : FVec Ideal S64x128 .bf16) : FVec Ideal S64x128 .f32 := matmul dot_S64x64_S64x128_S64x128_1_0_0_1_n_n none lt g (constant S64x128 .f32 0x00000000#32)
  addf (addf (mm g1) (mm g2)) (mm g3)

/-- The floor division of a vector of words by a word, as the kernel spells it. -/
def fdivV {s : Shape} (X : IVec s 32) (n : BitVec 32) : IVec s 32 :=
  select (andi (cmpi .ne (subi (extui 32 (cmpi .sgt X (broadcast s 0#32)) natLt_1_32) (extui 32 (cmpi .slt X (broadcast s 0#32)) natLt_1_32))
        (broadcast s (Scalar.subi (Scalar.extui (Scalar.cmpi .sgt n 0#32)) (Scalar.extui (Scalar.cmpi .slt n 0#32)))))
      (cmpi .ne (remsi X (broadcast s n)) (broadcast s 0#32)))
    (subi (divsi X (broadcast s n)) (broadcast s 1#32)) (divsi X (broadcast s n))

/-- The row number of a 256 × 256 array. -/
def rowI : IVec S256x256 32 := iota .tc S256x256 32 [0] iota_S256x256_d0_w32
/-- The column number of a 256 × 256 array. -/
def colI : IVec S256x256 32 := iota .tc S256x256 32 [1] iota_S256x256_d1_w32
/-- Row and column of one block of `n`. -/
def sameM (n : BitVec 32) : IVec S256x256 1 := cmpi .eq (fdivV rowI n) (fdivV colI n)
/-- Row and column of different blocks of `n`. -/
def diffM (n : BitVec 32) : IVec S256x256 1 := cmpi .ne (fdivV rowI n) (fdivV colI n)
/-- The causal mask of four heads' stacked chunks. -/
def causalM : IVec S256x256 1 := andi (sameM 64#32) (cmpi .sge rowI colI)
/-- The strictly causal mask. -/
def strictM : IVec S256x256 1 := andi (sameM 64#32) (cmpi .sgt rowI colI)
/-- The identity matrix. -/
def eyeV : FVec Ideal S256x256 .f32 := sitofp (F := Ideal) .f32 (extui 32 (cmpi .eq rowI colI) natLt_1_32)
/-- The head of a stacked row. -/
def headI : IVec S256x1 32 := fdivV (iota .tc S256x1 32 [0] iota_S256x1_d0_w32) 64#32

/-- The zero array. -/
def zV : FVec Ideal S256x256 .f32 := broadcast S256x256 (Scalar.ofBits (F := Ideal) .f32 0x00000000#32)
/-- Rounding to bf16 before a product. -/
def bV {s : Shape} (a : FVec Ideal s .f32) : FVec Ideal s .bf16 := truncf .bf16 a bitsLt_bf16_f32
/-- The product of 256 × 256 arrays. -/
def mmV (a b : FVec Ideal S256x256 .f32) : FVec Ideal S256x256 .f32 :=
  matmul dot_S256x256_S256x256_S256x256_1_0_0_1_n_n none (bV a) (bV b) (constant S256x256 .f32 0x00000000#32)
/-- Two arrays stacked. -/
def cat2 (a b : FVec Ideal S256x256 .f32) : FVec Ideal S512x256 .f32 :=
  concatenate S512x256 0 [⟨S256x256, a⟩, ⟨S256x256, b⟩] concatenates_S256x256_S256x256_S512x256_d0
/-- The upper half of a stack. -/
def topV (a : FVec Ideal S512x256 .f32) : FVec Ideal S256x256 .f32 := extractStridedSlice S256x256 ![0, 0] a slices_S512x256_o0_0_S256x256
/-- The lower half of a stack. -/
def botV (a : FVec Ideal S512x256 .f32) : FVec Ideal S256x256 .f32 := extractStridedSlice S256x256 ![256, 0] a slices_S512x256_o256_0_S256x256
/-- The product of a stack with a 256 × 256 array. -/
def mm2V (a : FVec Ideal S512x256 .f32) (b : FVec Ideal S256x256 .f32) : FVec Ideal S512x256 .f32 :=
  matmul dot_S512x256_S256x256_S512x256_1_0_0_1_n_n none (bV a) (bV b) (constant S512x256 .f32 0x00000000#32)
/-- The stacked products of keys (with their rates) and queries with the keys. -/
def kqV (kb q k : FVec Ideal S256x128 .f32) : FVec Ideal S512x256 .f32 :=
  matmul dot_S512x128_S256x128_S512x256_1_1_0_0_n_n none (bV (concatenate S512x128 0 [⟨S256x128, kb⟩, ⟨S256x128, q⟩] concatenates_S256x128_S256x128_S512x128_d0))
    (bV k) (constant S512x256 .f32 0x00000000#32)
/-- The decay between two tokens of one head. -/
def decayV (gcc : FVec Ideal S256x1 .f32) (gcr : FVec Ideal S1x256 .f32) : FVec Ideal S256x256 .f32 :=
  exp (select causalM (subf (broadcastTo S256x256 gcc broadcasts_S256x1_S256x256) (broadcastTo S256x256 gcr broadcasts_S1x256_S256x256))
    (broadcast S256x256 (Scalar.ofBits (F := Ideal) .f32 0xFF800000#32)))
/-- A column copied into every lane. -/
def laneV (a : FVec Ideal S256x1 .f32) : FVec Ideal S256x128 .f32 := broadcastTo S256x128 a broadcasts_S256x1_S256x128
/-- Minus the strictly lower interaction of the tokens. -/
def xV (kq : FVec Ideal S512x256 .f32) (d : FVec Ideal S256x256 .f32) : FVec Ideal S256x256 .f32 :=
  subf zV (select strictM (mulf (topV kq) d) zV)
/-- The queries' interaction with the tokens. -/
def intraV (kq : FVec Ideal S512x256 .f32) (d : FVec Ideal S256x256 .f32) : FVec Ideal S256x256 .f32 :=
  select causalM (mulf (botV kq) d) zV
/-- The diagonal blocks of sixteen. -/
def yV (x : FVec Ideal S256x256 .f32) : FVec Ideal S256x256 .f32 := select (sameM 16#32) x zV
/-- The inverse on blocks of sixteen, by repeated squaring. -/
def p1V (x : FVec Ideal S256x256 .f32) : FVec Ideal S256x256 .f32 :=
  let y := yV x
  let p := addf eyeV y
  let y2 := mmV y y
  let py := mm2V (cat2 p y2) y2
  let p' := addf p (topV py)
  let y4 := botV py
  let py' := mm2V (cat2 p' y4) y4
  let p'' := addf p' (topV py')
  let y8 := botV py'
  addf p'' (mmV p'' y8)
/-- The inverse on blocks twice as large. -/
def mergeV (p off : FVec Ideal S256x256 .f32) : FVec Ideal S256x256 .f32 := addf p (mmV (mmV p off) p)
/-- The inverse on the blocks of sixty-four. -/
def invV (x : FVec Ideal S256x256 .f32) : FVec Ideal S256x256 .f32 :=
  mergeV (mergeV (p1V x) (select (andi (sameM 32#32) (diffM 16#32)) x zV)) (select (andi (sameM 64#32) (diffM 32#32)) x zV)
/-- The inverse applied to values and keys. -/
def solV (p : FVec Ideal S256x256 .f32) (vb kbe : FVec Ideal S256x128 .f32) : FVec Ideal S256x256 .f32 :=
  mmV p (concatenate S256x256 1 [⟨S256x128, vb⟩, ⟨S256x128, kbe⟩] concatenates_S256x128_S256x128_S256x256_d1)
/-- Keys and queries against the state. -/
def wqV (w qe : FVec Ideal S256x128 .f32) (s : FVec Ideal S128x512 .f32) : FVec Ideal S512x512 .f32 :=
  matmul dot_S512x128_S128x512_S512x512_1_0_0_1_n_n none (bV (concatenate S512x128 0 [⟨S256x128, w⟩, ⟨S256x128, qe⟩] concatenates_S256x128_S256x128_S512x128_d0))
    (bV s) (constant S512x512 .f32 0x00000000#32)
/-- Each head's own lanes of the upper half. -/
def ownT (m : FVec Ideal S512x512 .f32) : FVec Ideal S256x128 .f32 :=
  concatenate S256x128 0 [⟨S64x128, extractStridedSlice S64x128 ![0, 0] m slices_S512x512_o0_0_S64x128⟩, ⟨S64x128, extractStridedSlice S64x128 ![64, 128] m slices_S512x512_o64_128_S64x128⟩,
    ⟨S64x128, extractStridedSlice S64x128 ![128, 256] m slices_S512x512_o128_256_S64x128⟩, ⟨S64x128, extractStridedSlice S64x128 ![192, 384] m slices_S512x512_o192_384_S64x128⟩] concatenates_S64x128_S64x128_S64x128_S64x128_S256x128_d0
/-- Each head's own lanes of the lower half. -/
def ownB (m : FVec Ideal S512x512 .f32) : FVec Ideal S256x128 .f32 :=
  concatenate S256x128 0 [⟨S64x128, extractStridedSlice S64x128 ![256, 0] m slices_S512x512_o256_0_S64x128⟩, ⟨S64x128, extractStridedSlice S64x128 ![320, 128] m slices_S512x512_o320_128_S64x128⟩,
    ⟨S64x128, extractStridedSlice S64x128 ![384, 256] m slices_S512x512_o384_256_S64x128⟩, ⟨S64x128, extractStridedSlice S64x128 ![448, 384] m slices_S512x512_o448_384_S64x128⟩] concatenates_S64x128_S64x128_S64x128_S64x128_S256x128_d0
/-- The updates of one chunk. -/
def vnewV (sol : FVec Ideal S256x256 .f32) (wq : FVec Ideal S512x512 .f32) : FVec Ideal S256x128 .f32 :=
  subf (extractStridedSlice S256x128 ![0, 0] sol slices_S256x256_o0_0_S256x128) (ownT wq)
/-- The rows of one head, the others zero. -/
def blkV (vn : FVec Ideal S256x128 .f32) (j : BitVec 32) : FVec Ideal S256x128 .f32 :=
  select (broadcastTo S256x128 (shapeCast S256x1 (cmpi .eq headI (broadcast S256x1 j)) shapeCasts_S256x1_S256x1) broadcasts_S256x1_S256x128) vn
    (broadcast S256x128 (Scalar.ofBits (F := Ideal) .f32 0x00000000#32))
/-- The state after one chunk. -/
def stateV (k vn : FVec Ideal S256x128 .f32) (gcc glc : FVec Ideal S256x1 .f32) (sd : FVec Ideal S1x512 .f32) (s : FVec Ideal S128x512 .f32) : FVec Ideal S128x512 .f32 :=
  shapeCast S128x512 (addf (mulf s (broadcastTo S128x512 sd broadcasts_S1x512_S128x512))
    (matmul dot_S128x256_S256x512_S128x512_1_0_0_1_n_n none
      (bV (transpose S128x256 [1, 0] (mulf k (laneV (exp (subf glc gcc)))) transposes_S256x128_p1_0_S128x256))
      (bV (concatenate S256x512 1 [⟨S256x128, blkV vn 0#32⟩, ⟨S256x128, blkV vn 1#32⟩, ⟨S256x128, blkV vn 2#32⟩, ⟨S256x128, blkV vn 3#32⟩] concatenates_S256x128_S256x128_S256x128_S256x128_S256x512_d1))
      (constant S128x512 .f32 0x00000000#32))) shapeCasts_S128x512_S128x512
/-- The outputs of one chunk before the norm. -/
def oV (wq : FVec Ideal S512x512 .f32) (intra : FVec Ideal S256x256 .f32) (vn : FVec Ideal S256x128 .f32) : FVec Ideal S256x128 .f32 :=
  addf (ownB wq) (matmul dot_S256x256_S256x128_S256x128_1_0_0_1_n_n none (bV intra) (bV vn) (constant S256x128 .f32 0x00000000#32))
/-- The outputs normalised and scaled. -/
def onV (o : FVec Ideal S256x128 .f32) (ow : Vec Ideal S1x128 .f32) : FVec Ideal S256x128 .f32 :=
  mulf (mulf o (broadcastTo S256x128 (rsqrt (addf (divf (shapeCast S256x1 (multiReduction .add [1] S256 (mulf o o) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 (shapeCast S1x128 ow shapeCasts_S1x128_S1x128) broadcasts_S1x128_S256x128)
/-- One head's gated outputs. -/
def odV (on : FVec Ideal S64x128 .f32) (z : FVec Ideal S64x128 .f32) : FVec Ideal S64x128 .bf16 :=
  let h : FVec Ideal S64x128 .f32 := broadcast S64x128 (Scalar.ofBits (F := Ideal) .f32 0x3F000000#32)
  truncf .bf16 (mulf on (mulf z (addf (mulf h (tanh (mulf h z))) h))) bitsLt_bf16_f32
/-- Four blocks of rows stacked. -/
def stack4 (a b c d : FVec Ideal S64x128 .f32) : FVec Ideal S256x128 .f32 :=
  concatenate S256x128 0 [⟨S64x128, a⟩, ⟨S64x128, b⟩, ⟨S64x128, c⟩, ⟨S64x128, d⟩] concatenates_S64x128_S64x128_S64x128_S64x128_S256x128_d0

/-- Group 0: the heads' rates, stacked. -/
def bcol0 (a : FVec Ideal S64x128 .f32) : FVec Ideal S256x1 .f32 :=
  concatenate S256x1 0 [⟨S64x1, extractStridedSlice S64x1 ![0, 0] a slices_S64x128_o0_0_S64x1⟩, ⟨S64x1, extractStridedSlice S64x1 ![0, 1] a slices_S64x128_o0_1_S64x1⟩, ⟨S64x1, extractStridedSlice S64x1 ![0, 2] a slices_S64x128_o0_2_S64x1⟩, ⟨S64x1, extractStridedSlice S64x1 ![0, 3] a slices_S64x128_o0_3_S64x1⟩] concatenates_S64x1_S64x1_S64x1_S64x1_S256x1_d0
/-- Group 0: the heads' cumulated gates, stacked. -/
def gcc0 (a : FVec Ideal S64x128 .f32) : FVec Ideal S256x1 .f32 :=
  concatenate S256x1 0 [⟨S64x1, extractStridedSlice S64x1 ![0, 8] a slices_S64x128_o0_8_S64x1⟩, ⟨S64x1, extractStridedSlice S64x1 ![0, 9] a slices_S64x128_o0_9_S64x1⟩, ⟨S64x1, extractStridedSlice S64x1 ![0, 10] a slices_S64x128_o0_10_S64x1⟩, ⟨S64x1, extractStridedSlice S64x1 ![0, 11] a slices_S64x128_o0_11_S64x1⟩] concatenates_S64x1_S64x1_S64x1_S64x1_S256x1_d0
/-- Group 0: the heads' cumulated gates as a row. -/
def gcr0 (a : FVec Ideal S64x128 .f32) : FVec Ideal S1x256 .f32 :=
  let t : FVec Ideal S128x64 .f32 := transpose S128x64 [1, 0] a transposes_S64x128_p1_0_S128x64
  concatenate S1x256 1 [⟨S1x64, extractStridedSlice S1x64 ![8, 0] t slices_S128x64_o8_0_S1x64⟩, ⟨S1x64, extractStridedSlice S1x64 ![9, 0] t slices_S128x64_o9_0_S1x64⟩, ⟨S1x64, extractStridedSlice S1x64 ![10, 0] t slices_S128x64_o10_0_S1x64⟩, ⟨S1x64, extractStridedSlice S1x64 ![11, 0] t slices_S128x64_o11_0_S1x64⟩] concatenates_S1x64_S1x64_S1x64_S1x64_S1x256_d1
/-- Group 0: the heads' last cumulated gates, copied to every row. -/
def glc0 (a : FVec Ideal S64x128 .f32) : FVec Ideal S256x1 .f32 :=
  concatenate S256x1 0 [⟨S64x1, broadcastTo S64x1 (shapeCast S1x1 (extractStridedSlice S1x1 ![63, 8] a slices_S64x128_o63_8_S1x1) shapeCasts_S1x1_S1x1) broadcasts_S1x1_S64x1⟩, ⟨S64x1, broadcastTo S64x1 (shapeCast S1x1 (extractStridedSlice S1x1 ![63, 9] a slices_S64x128_o63_9_S1x1) shapeCasts_S1x1_S1x1) broadcasts_S1x1_S64x1⟩, ⟨S64x1, broadcastTo S64x1 (shapeCast S1x1 (extractStridedSlice S1x1 ![63, 10] a slices_S64x128_o63_10_S1x1) shapeCasts_S1x1_S1x1) broadcasts_S1x1_S64x1⟩, ⟨S64x1, broadcastTo S64x1 (shapeCast S1x1 (extractStridedSlice S1x1 ![63, 11] a slices_S64x128_o63_11_S1x1) shapeCasts_S1x1_S1x1) broadcasts_S1x1_S64x1⟩] concatenates_S64x1_S64x1_S64x1_S64x1_S256x1_d0
/-- Group 0: the decay of the state over the chunk, a row over the heads' lanes. -/
def sdec0 (a : FVec Ideal S64x128 .f32) : FVec Ideal S1x512 .f32 :=
  concatenate S1x512 1 [⟨S1x128, broadcastTo S1x128 (shapeCast S1x1 (exp (extractStridedSlice S1x1 ![63, 8] a slices_S64x128_o63_8_S1x1)) shapeCasts_S1x1_S1x1) broadcasts_S1x1_S1x128⟩, ⟨S1x128, broadcastTo S1x128 (shapeCast S1x1 (exp (extractStridedSlice S1x1 ![63, 9] a slices_S64x128_o63_9_S1x1)) shapeCasts_S1x1_S1x1) broadcasts_S1x1_S1x128⟩, ⟨S1x128, broadcastTo S1x128 (shapeCast S1x1 (exp (extractStridedSlice S1x1 ![63, 10] a slices_S64x128_o63_10_S1x1)) shapeCasts_S1x1_S1x1) broadcasts_S1x1_S1x128⟩, ⟨S1x128, broadcastTo S1x128 (shapeCast S1x1 (exp (extractStridedSlice S1x1 ![63, 11] a slices_S64x128_o63_11_S1x1)) shapeCasts_S1x1_S1x1) broadcasts_S1x1_S1x128⟩] concatenates_S1x128_S1x128_S1x128_S1x128_S1x512_d1

/-- Group 1: the heads' rates, stacked. -/
def bcol1 (a : FVec Ideal S64x128 .f32) : FVec Ideal S256x1 .f32 :=
  concatenate S256x1 0 [⟨S64x1, extractStridedSlice S64x1 ![0, 4] a slices_S64x128_o0_4_S64x1⟩, ⟨S64x1, extractStridedSlice S64x1 ![0, 5] a slices_S64x128_o0_5_S64x1⟩, ⟨S64x1, extractStridedSlice S64x1 ![0, 6] a slices_S64x128_o0_6_S64x1⟩, ⟨S64x1, extractStridedSlice S64x1 ![0, 7] a slices_S64x128_o0_7_S64x1⟩] concatenates_S64x1_S64x1_S64x1_S64x1_S256x1_d0
/-- Group 1: the heads' cumulated gates, stacked. -/
def gcc1 (a : FVec Ideal S64x128 .f32) : FVec Ideal S256x1 .f32 :=
  concatenate S256x1 0 [⟨S64x1, extractStridedSlice S64x1 ![0, 12] a slices_S64x128_o0_12_S64x1⟩, ⟨S64x1, extractStridedSlice S64x1 ![0, 13] a slices_S64x128_o0_13_S64x1⟩, ⟨S64x1, extractStridedSlice S64x1 ![0, 14] a slices_S64x128_o0_14_S64x1⟩, ⟨S64x1, extractStridedSlice S64x1 ![0, 15] a slices_S64x128_o0_15_S64x1⟩] concatenates_S64x1_S64x1_S64x1_S64x1_S256x1_d0
/-- Group 1: the heads' cumulated gates as a row. -/
def gcr1 (a : FVec Ideal S64x128 .f32) : FVec Ideal S1x256 .f32 :=
  let t : FVec Ideal S128x64 .f32 := transpose S128x64 [1, 0] a transposes_S64x128_p1_0_S128x64
  concatenate S1x256 1 [⟨S1x64, extractStridedSlice S1x64 ![12, 0] t slices_S128x64_o12_0_S1x64⟩, ⟨S1x64, extractStridedSlice S1x64 ![13, 0] t slices_S128x64_o13_0_S1x64⟩, ⟨S1x64, extractStridedSlice S1x64 ![14, 0] t slices_S128x64_o14_0_S1x64⟩, ⟨S1x64, extractStridedSlice S1x64 ![15, 0] t slices_S128x64_o15_0_S1x64⟩] concatenates_S1x64_S1x64_S1x64_S1x64_S1x256_d1
/-- Group 1: the heads' last cumulated gates, copied to every row. -/
def glc1 (a : FVec Ideal S64x128 .f32) : FVec Ideal S256x1 .f32 :=
  concatenate S256x1 0 [⟨S64x1, broadcastTo S64x1 (shapeCast S1x1 (extractStridedSlice S1x1 ![63, 12] a slices_S64x128_o63_12_S1x1) shapeCasts_S1x1_S1x1) broadcasts_S1x1_S64x1⟩, ⟨S64x1, broadcastTo S64x1 (shapeCast S1x1 (extractStridedSlice S1x1 ![63, 13] a slices_S64x128_o63_13_S1x1) shapeCasts_S1x1_S1x1) broadcasts_S1x1_S64x1⟩, ⟨S64x1, broadcastTo S64x1 (shapeCast S1x1 (extractStridedSlice S1x1 ![63, 14] a slices_S64x128_o63_14_S1x1) shapeCasts_S1x1_S1x1) broadcasts_S1x1_S64x1⟩, ⟨S64x1, broadcastTo S64x1 (shapeCast S1x1 (extractStridedSlice S1x1 ![63, 15] a slices_S64x128_o63_15_S1x1) shapeCasts_S1x1_S1x1) broadcasts_S1x1_S64x1⟩] concatenates_S64x1_S64x1_S64x1_S64x1_S256x1_d0
/-- Group 1: the decay of the state over the chunk, a row over the heads' lanes. -/
def sdec1 (a : FVec Ideal S64x128 .f32) : FVec Ideal S1x512 .f32 :=
  concatenate S1x512 1 [⟨S1x128, broadcastTo S1x128 (shapeCast S1x1 (exp (extractStridedSlice S1x1 ![63, 12] a slices_S64x128_o63_12_S1x1)) shapeCasts_S1x1_S1x1) broadcasts_S1x1_S1x128⟩, ⟨S1x128, broadcastTo S1x128 (shapeCast S1x1 (exp (extractStridedSlice S1x1 ![63, 13] a slices_S64x128_o63_13_S1x1)) shapeCasts_S1x1_S1x1) broadcasts_S1x1_S1x128⟩, ⟨S1x128, broadcastTo S1x128 (shapeCast S1x1 (exp (extractStridedSlice S1x1 ![63, 14] a slices_S64x128_o63_14_S1x1)) shapeCasts_S1x1_S1x1) broadcasts_S1x1_S1x128⟩, ⟨S1x128, broadcastTo S1x128 (shapeCast S1x1 (exp (extractStridedSlice S1x1 ![63, 15] a slices_S64x128_o63_15_S1x1)) shapeCasts_S1x1_S1x1) broadcasts_S1x1_S1x128⟩] concatenates_S1x128_S1x128_S1x128_S1x128_S1x512_d1

/-- What one group of heads over one chunk computes from: keys, queries, values, rates and cumulated gates. -/
structure Grp where
  k : FVec Ideal S256x128 .f32
  q : FVec Ideal S256x128 .f32
  v : FVec Ideal S256x128 .f32
  b : FVec Ideal S256x1 .f32
  gcc : FVec Ideal S256x1 .f32
  gcr : FVec Ideal S1x256 .f32
  glc : FVec Ideal S256x1 .f32
  sd : FVec Ideal S1x512 .f32

namespace Grp
variable (G : Grp) (s : FVec Ideal S128x512 .f32)
/-- Keys times rates. -/
def kb : FVec Ideal S256x128 .f32 := mulf G.k (laneV G.b)
/-- The exponentials of the cumulated gates. -/
def eg : FVec Ideal S256x128 .f32 := laneV (exp G.gcc)
/-- The products of keys and queries with the keys. -/
def kq : FVec Ideal S512x256 .f32 := kqV G.kb G.q G.k
/-- The decays. -/
def dec : FVec Ideal S256x256 .f32 := decayV G.gcc G.gcr
/-- The inverse. -/
def inv : FVec Ideal S256x256 .f32 := invV (xV G.kq G.dec)
/-- The solved values and keys. -/
def sol : FVec Ideal S256x256 .f32 := solV G.inv (mulf G.v (laneV G.b)) (mulf G.kb G.eg)
/-- Keys and queries against the state. -/
def wq : FVec Ideal S512x512 .f32 :=
  wqV (extractStridedSlice S256x128 ![0, 128] G.sol slices_S256x256_o0_128_S256x128) (mulf G.q G.eg) s
/-- The updates. -/
def vnew : FVec Ideal S256x128 .f32 := vnewV G.sol (G.wq s)
/-- The next state. -/
def next : FVec Ideal S128x512 .f32 := stateV G.k (G.vnew s) G.gcc G.glc G.sd s
/-- The outputs. -/
def out : FVec Ideal S256x128 .f32 := oV (G.wq s) (intraV G.kq G.dec) (G.vnew s)
end Grp

/-- A block of 64 rows and 128 lanes. -/
def tile (x : Vec Ideal S128x1024 .f32) (r l : ℕ) (h : ∀ a, (![r, l] : Fin 2 → ℕ) a + S64x128.size a ≤ S128x1024.size a) : FVec Ideal S64x128 .f32 :=
  View.ld x (Rect.unit (s := S128x1024) ![r, l] S64x128.size h)
/-- A chunk's gates. -/
def bgT (x : Vec Ideal S128x128 .f32) (r : ℕ) (h : ∀ a, (![r, 0] : Fin 2 → ℕ) a + S64x128.size a ≤ S128x128.size a) : FVec Ideal S64x128 .f32 :=
  View.ld x (Rect.unit (s := S128x128) ![r, 0] S64x128.size h)

/-- Chunk 0, group 0. -/
def grp00 (x0 x1 x2 : Vec Ideal S128x1024 .f32) (x3 : Vec Ideal S128x128 .f32) : Grp where
  k := stack4 (tile x1 0 0 (by decide)) (tile x1 0 128 (by decide)) (tile x1 0 256 (by decide)) (tile x1 0 384 (by decide))
  q := stack4 (tile x0 0 0 (by decide)) (tile x0 0 128 (by decide)) (tile x0 0 256 (by decide)) (tile x0 0 384 (by decide))
  v := stack4 (tile x2 0 0 (by decide)) (tile x2 0 128 (by decide)) (tile x2 0 256 (by decide)) (tile x2 0 384 (by decide))
  b := bcol0 (bgT x3 0 (by decide))
  gcc := gcc0 (gcV (bgT x3 0 (by decide)))
  gcr := gcr0 (gcV (bgT x3 0 (by decide)))
  glc := glc0 (gcV (bgT x3 0 (by decide)))
  sd := sdec0 (gcV (bgT x3 0 (by decide)))

/-- Chunk 0, group 1. -/
def grp01 (x0 x1 x2 : Vec Ideal S128x1024 .f32) (x3 : Vec Ideal S128x128 .f32) : Grp where
  k := stack4 (tile x1 0 512 (by decide)) (tile x1 0 640 (by decide)) (tile x1 0 768 (by decide)) (tile x1 0 896 (by decide))
  q := stack4 (tile x0 0 512 (by decide)) (tile x0 0 640 (by decide)) (tile x0 0 768 (by decide)) (tile x0 0 896 (by decide))
  v := stack4 (tile x2 0 512 (by decide)) (tile x2 0 640 (by decide)) (tile x2 0 768 (by decide)) (tile x2 0 896 (by decide))
  b := bcol1 (bgT x3 0 (by decide))
  gcc := gcc1 (gcV (bgT x3 0 (by decide)))
  gcr := gcr1 (gcV (bgT x3 0 (by decide)))
  glc := glc1 (gcV (bgT x3 0 (by decide)))
  sd := sdec1 (gcV (bgT x3 0 (by decide)))

/-- Chunk 1, group 0. -/
def grp10 (x0 x1 x2 : Vec Ideal S128x1024 .f32) (x3 : Vec Ideal S128x128 .f32) : Grp where
  k := stack4 (tile x1 64 0 (by decide)) (tile x1 64 128 (by decide)) (tile x1 64 256 (by decide)) (tile x1 64 384 (by decide))
  q := stack4 (tile x0 64 0 (by decide)) (tile x0 64 128 (by decide)) (tile x0 64 256 (by decide)) (tile x0 64 384 (by decide))
  v := stack4 (tile x2 64 0 (by decide)) (tile x2 64 128 (by decide)) (tile x2 64 256 (by decide)) (tile x2 64 384 (by decide))
  b := bcol0 (bgT x3 64 (by decide))
  gcc := gcc0 (gcV (bgT x3 64 (by decide)))
  gcr := gcr0 (gcV (bgT x3 64 (by decide)))
  glc := glc0 (gcV (bgT x3 64 (by decide)))
  sd := sdec0 (gcV (bgT x3 64 (by decide)))

/-- Chunk 1, group 1. -/
def grp11 (x0 x1 x2 : Vec Ideal S128x1024 .f32) (x3 : Vec Ideal S128x128 .f32) : Grp where
  k := stack4 (tile x1 64 512 (by decide)) (tile x1 64 640 (by decide)) (tile x1 64 768 (by decide)) (tile x1 64 896 (by decide))
  q := stack4 (tile x0 64 512 (by decide)) (tile x0 64 640 (by decide)) (tile x0 64 768 (by decide)) (tile x0 64 896 (by decide))
  v := stack4 (tile x2 64 512 (by decide)) (tile x2 64 640 (by decide)) (tile x2 64 768 (by decide)) (tile x2 64 896 (by decide))
  b := bcol1 (bgT x3 64 (by decide))
  gcc := gcc1 (gcV (bgT x3 64 (by decide)))
  gcr := gcr1 (gcV (bgT x3 64 (by decide)))
  glc := glc1 (gcV (bgT x3 64 (by decide)))
  sd := sdec1 (gcV (bgT x3 64 (by decide)))

/-- A group's lanes of the state. -/
def half (s : Vec Ideal S128x1024 .f32) (l : ℕ) (h : ∀ a, (![0, l] : Fin 2 → ℕ) a + S128x512.size a ≤ S128x1024.size a) : FVec Ideal S128x512 .f32 :=
  View.ld s (Rect.unit (s := S128x1024) ![0, l] S128x512.size h)
end Cert.KernelIdeal.Body
-- ==== Proof.Match.lean ====
module

public import proofs.«01_k».proof.Defs
public import proofs.«01_k».proof.Proof.Gen.KernelIdeal.Value
public import Idealize.ShloMosaic.Lib.Pipeline.ValueKit
public import Idealize.ShloMosaic.Lib.Pipeline.ReadBack
public import Idealize.ShloMosaic.Lib.Claim
public import proofs.«01_k».proof.Proof.Body
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Body
open Cert.KernelIdeal Cert.KernelIdeal.Gen Cert.KernelIdeal.Value

/-- The two groups' lanes of the state, side by side. -/
def join (a b : FVec Ideal S128x512 .f32) : Vec Ideal S128x1024 .f32 := fun y =>
  if h : (y 1).val < 512 then a (ix2 (y 0) ⟨(y 1).val, h⟩) else b (ix2 (y 0) ⟨(y 1).val - 512, by have := (y 1).isLt; simp at this; omega⟩)

/-- The state after the two chunks of one grid point. -/
def nextS (x0 x1 x2 : Vec Ideal S128x1024 .f32) (x3 : Vec Ideal S128x128 .f32) (s : Vec Ideal S128x1024 .f32) : Vec Ideal S128x1024 .f32 :=
  join ((grp10 x0 x1 x2 x3).next ((grp00 x0 x1 x2 x3).next (half s 0 (by decide))))
    ((grp11 x0 x1 x2 x3).next ((grp01 x0 x1 x2 x3).next (half s 512 (by decide))))

/-- The stored outputs of one grid point, by chunk and head. -/
def odP (x0 x1 x2 : Vec Ideal S128x1024 .f32) (x3 : Vec Ideal S128x128 .f32) (x4 : Vec Ideal S128x1024 .f32) (x6 : Vec Ideal S1x128 .f32) (s : Vec Ideal S128x1024 .f32) :
    Fin 2 → Fin 8 → FVec Ideal S64x128 .bf16 :=
  let o00 := onV ((grp00 x0 x1 x2 x3).out (half s 0 (by decide))) x6
  let o01 := onV ((grp01 x0 x1 x2 x3).out (half s 512 (by decide))) x6
  let o10 := onV ((grp10 x0 x1 x2 x3).out ((grp00 x0 x1 x2 x3).next (half s 0 (by decide)))) x6
  let o11 := onV ((grp11 x0 x1 x2 x3).out ((grp01 x0 x1 x2 x3).next (half s 512 (by decide)))) x6
  ![
    ![odV (extractStridedSlice S64x128 ![0, 0] o00 slices_S256x128_o0_0_S64x128) (tile x4 0 0 (by decide)),
      odV (extractStridedSlice S64x128 ![64, 0] o00 slices_S256x128_o64_0_S64x128) (tile x4 0 128 (by decide)),
      odV (extractStridedSlice S64x128 ![128, 0] o00 slices_S256x128_o128_0_S64x128) (tile x4 0 256 (by decide)),
      odV (extractStridedSlice S64x128 ![192, 0] o00 slices_S256x128_o192_0_S64x128) (tile x4 0 384 (by decide)),
      odV (extractStridedSlice S64x128 ![0, 0] o01 slices_S256x128_o0_0_S64x128) (tile x4 0 512 (by decide)),
      odV (extractStridedSlice S64x128 ![64, 0] o01 slices_S256x128_o64_0_S64x128) (tile x4 0 640 (by decide)),
      odV (extractStridedSlice S64x128 ![128, 0] o01 slices_S256x128_o128_0_S64x128) (tile x4 0 768 (by decide)),
      odV (extractStridedSlice S64x128 ![192, 0] o01 slices_S256x128_o192_0_S64x128) (tile x4 0 896 (by decide))],
    ![odV (extractStridedSlice S64x128 ![0, 0] o10 slices_S256x128_o0_0_S64x128) (tile x4 64 0 (by decide)),
      odV (extractStridedSlice S64x128 ![64, 0] o10 slices_S256x128_o64_0_S64x128) (tile x4 64 128 (by decide)),
      odV (extractStridedSlice S64x128 ![128, 0] o10 slices_S256x128_o128_0_S64x128) (tile x4 64 256 (by decide)),
      odV (extractStridedSlice S64x128 ![192, 0] o10 slices_S256x128_o192_0_S64x128) (tile x4 64 384 (by decide)),
      odV (extractStridedSlice S64x128 ![0, 0] o11 slices_S256x128_o0_0_S64x128) (tile x4 64 512 (by decide)),
      odV (extractStridedSlice S64x128 ![64, 0] o11 slices_S256x128_o64_0_S64x128) (tile x4 64 640 (by decide)),
      odV (extractStridedSlice S64x128 ![128, 0] o11 slices_S256x128_o128_0_S64x128) (tile x4 64 768 (by decide)),
      odV (extractStridedSlice S64x128 ![192, 0] o11 slices_S256x128_o192_0_S64x128) (tile x4 64 896 (by decide))]]

/-- The output block of one grid point, put together from its pieces. -/
def glue (P : Fin 2 → Fin 8 → FVec Ideal S64x128 .bf16) : Vec Ideal S128x1024 .bf16 := fun y =>
  P ⟨(y 0).val / 64, by have := (y 0).isLt; simp at this; omega⟩ ⟨(y 1).val / 128, by have := (y 1).isLt; simp at this; omega⟩
    (ix2 ⟨(y 0).val % 64, by omega⟩ ⟨(y 1).val % 128, by omega⟩)

/-- A stored piece in the first group's lanes. -/
theorem piece0 (a b P : FVec Ideal S128x512 .f32) (h) (e : P = a) (x : S128x512.Idx) : P x = join a b ((Rect.unit (s := S128x1024) ![0, 0] S128x512.size h).emb x) := by
  subst e
  have h1 : (((Rect.unit (s := S128x1024) ![0, 0] S128x512.size h).emb x) 1).val = (x 1).val := by simp [Rect.emb_apply]
  have h0 : (((Rect.unit (s := S128x1024) ![0, 0] S128x512.size h).emb x) 0).val = (x 0).val := by simp [Rect.emb_apply]
  have hl : (x 1).val < 512 := (x 1).isLt
  rw [join, dif_pos (h1 ▸ hl)]
  refine congrArg P (funext fun d => ?_)
  fin_cases d
  · exact Fin.ext h0.symm
  · exact Fin.ext h1.symm
/-- A stored piece in the second group's lanes. -/
theorem piece1 (a b P : FVec Ideal S128x512 .f32) (h) (e : P = b) (x : S128x512.Idx) : P x = join a b ((Rect.unit (s := S128x1024) ![0, 512] S128x512.size h).emb x) := by
  subst e
  have h1 : (((Rect.unit (s := S128x1024) ![0, 512] S128x512.size h).emb x) 1).val = 512 + (x 1).val := by simp [Rect.emb_apply]
  have h0 : (((Rect.unit (s := S128x1024) ![0, 512] S128x512.size h).emb x) 0).val = (x 0).val := by simp [Rect.emb_apply]
  have hl : (x 1).val < 512 := (x 1).isLt
  rw [join, dif_neg (by omega)]
  refine congrArg P (funext fun d => ?_)
  fin_cases d
  · exact Fin.ext h0.symm
  · exact Fin.ext (show (x 1).val = _ by simp only [h1]; show _ = 512 + (x 1).val - 512; omega)
/-- The output block at an index of one piece. -/
theorem glue_at (P : Fin 2 → Fin 8 → FVec Ideal S64x128 .bf16) (y : S128x1024.Idx) (c : Fin 2) (d : Fin 8) (x : S64x128.Idx)
    (h0 : (y 0).val = 64 * c.val + (x 0).val) (h1 : (y 1).val = 128 * d.val + (x 1).val) : glue P y = P c d x := by
  have b0 : (x 0).val < 64 := (x 0).isLt
  have b1 : (x 1).val < 128 := (x 1).isLt
  have e0 : ∀ h, (⟨(y 0).val / 64, h⟩ : Fin 2) = c := fun h => Fin.ext (show (y 0).val / 64 = c.val by omega)
  have e1 : ∀ h, (⟨(y 1).val / 128, h⟩ : Fin 8) = d := fun h => Fin.ext (show (y 1).val / 128 = d.val by omega)
  unfold glue
  rw [e0, e1]
  refine congrArg (P c d) (funext fun a => ?_)
  fin_cases a
  · exact Fin.ext (show (y 0).val % 64 = (x 0).val by omega)
  · exact Fin.ext (show (y 1).val % 128 = (x 1).val by omega)
/-- A stored piece of the output block. -/
theorem pieceO (P : Fin 2 → Fin 8 → FVec Ideal S64x128 .bf16) (Q : FVec Ideal S64x128 .bf16) (c : Fin 2) (d : Fin 8) (r l : ℕ) (hr : r = 64 * c.val) (hl : l = 128 * d.val)
    (h) (e : Q = P c d) (x : S64x128.Idx) : Q x = glue P ((Rect.unit (s := S128x1024) ![r, l] S64x128.size h).emb x) := by
  subst e hr hl
  refine (glue_at P _ c d x ?_ ?_).symm <;> simp [Rect.emb_apply]

/-- A load of the whole state after stores reads what they leave. -/
theorem readCov_all (v : View sig .tc .vmem S128x1024 .f32) (L : List (View.Piece (Elt Ideal) S128x1024 .f32)) (h) (G : Vec Ideal S128x1024 .f32)
    (hG : ∀ y, View.canon L y = G y) : v.readCov L (Rect.unit (s := S128x1024) ![0, 0] S128x1024.size h).toLoadRect = G := by
  rw [View.readCov_eq_canon']
  funext y
  rw [← hG]
  exact congrFun (View.ld_unit_zero (S := S128x1024) (by funext a; fin_cases a <;> rfl) h (View.canon L)) y
/-- The two groups' pieces cover the state. -/
theorem cov2 (A B : FVec Ideal S128x512 .f32) (h h') (y : S128x1024.Idx) :
    ∃ p ∈ ([⟨Rect.unit (s := S128x1024) ![0, 512] S128x512.size h, A⟩, ⟨Rect.unit (s := S128x1024) ![0, 0] S128x512.size h', B⟩] : List (View.Piece (Elt Ideal) S128x1024 .f32)), y ∈ p.1.set :=
  View.cover_of_tiledL (Val := Elt Ideal) (e := .f32) [⟨Rect.unit (s := S128x1024) ![0, 512] S128x512.size h, A⟩, ⟨Rect.unit (s := S128x1024) ![0, 0] S128x512.size h', B⟩] S128x512.size (by sl_kernel_rfl) y

set_option pp.deepTerms false
set_option pp.maxSteps 300
set_option maxHeartbeats 0 in
/-- The state scratch after a later point. -/
theorem sout_B (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S1x128 .f32) (harg8 : arg8.IsWhole) (arg9 : Memref sig .tc .vmem S128x1024 .bf16) (harg9 : arg9.IsWhole) (arg10 : Memref sig .tc .vmem S1x128x1024 .f32) (harg10 : arg10.IsWhole) (arg11 : Memref sig .tc .vmem S128x1024 .f32) (harg11 : arg11.IsWhole) (hc0 : ¬cond0_0 i)
    (x0 : Vec Ideal S128x1024 .f32) (x1 : Vec Ideal S128x1024 .f32) (x2 : Vec Ideal S128x1024 .f32) (x3 : Vec Ideal S128x128 .f32) (x4 : Vec Ideal S128x1024 .f32) (x5 : Vec Ideal S1x128x1024 .f32) (x6 : Vec Ideal S1x128 .f32) (xs0 : Vec Ideal S128x1024 .f32) :
   sout0_B_0 c i arg2 harg2 arg3 harg3 arg4 harg4 arg5 harg5 arg6 harg6 arg7 harg7 arg8 harg8 arg9 harg9 arg10 harg10 arg11 harg11 hc0 x0 x1 x2 x3 x4 x5 x6 xs0 = nextS x0 x1 x2 x3 xs0 := by
  funext y
  frame_open
  have e0 := Memref.IsWhole.read_unread (Val := Elt Ideal) harg2 x0
  generalize harg2.unread x0 = w0 at *
  subst e0
  have e1 := Memref.IsWhole.read_unread (Val := Elt Ideal) harg3 x1
  generalize harg3.unread x1 = w1 at *
  subst e1
  have e2 := Memref.IsWhole.read_unread (Val := Elt Ideal) harg4 x2
  generalize harg4.unread x2 = w2 at *
  subst e2
  have e3 := Memref.IsWhole.read_unread (Val := Elt Ideal) harg5 x3
  generalize harg5.unread x3 = w3 at *
  subst e3
  have e4 := Memref.IsWhole.read_unread (Val := Elt Ideal) harg11 xs0
  generalize harg11.unread xs0 = w4 at *
  subst e4
  simp (disch := decide) only [↓ View.readCov_skip, ↓ View.readCov_cons_toLoadRect, ↓ View.readCov_fill]
  frame_out
  refine View.canon_append_of_piecesOf (join ((grp10 (arg2.view.read (Elt Ideal) w0) (arg3.view.read (Elt Ideal) w1) (arg4.view.read (Elt Ideal) w2) (arg5.view.read (Elt Ideal) w3)).next ((grp00 (arg2.view.read (Elt Ideal) w0) (arg3.view.read (Elt Ideal) w1) (arg4.view.read (Elt Ideal) w2) (arg5.view.read (Elt Ideal) w3)).next (half (arg11.view.read (Elt Ideal) w4) 0 (by decide)))) ((grp11 (arg2.view.read (Elt Ideal) w0) (arg3.view.read (Elt Ideal) w1) (arg4.view.read (Elt Ideal) w2) (arg5.view.read (Elt Ideal) w3)).next ((grp01 (arg2.view.read (Elt Ideal) w0) (arg3.view.read (Elt Ideal) w1) (arg4.view.read (Elt Ideal) w2) (arg5.view.read (Elt Ideal) w3)).next (half (arg11.view.read (Elt Ideal) w4) 512 (by decide))))) [_, _] [_, _] ⟨piece1 _ _ _ (by decide) ?_, piece0 _ _ _ (by decide) ?_, trivial⟩ y (cov2 _ _ _ _ y)
  · rfl
  · rfl

set_option pp.deepTerms false
set_option pp.maxSteps 300
set_option maxHeartbeats 0 in
/-- The state scratch after a batch's first point. -/
theorem sout_A (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S1x128 .f32) (harg8 : arg8.IsWhole) (arg9 : Memref sig .tc .vmem S128x1024 .bf16) (harg9 : arg9.IsWhole) (arg10 : Memref sig .tc .vmem S1x128x1024 .f32) (harg10 : arg10.IsWhole) (arg11 : Memref sig .tc .vmem S128x1024 .f32) (harg11 : arg11.IsWhole) (hc0 : cond0_0 i)
    (x0 : Vec Ideal S128x1024 .f32) (x1 : Vec Ideal S128x1024 .f32) (x2 : Vec Ideal S128x1024 .f32) (x3 : Vec Ideal S128x128 .f32) (x4 : Vec Ideal S128x1024 .f32) (x5 : Vec Ideal S1x128x1024 .f32) (x6 : Vec Ideal S1x128 .f32) :
   sout0_A_0 c i arg2 harg2 arg3 harg3 arg4 harg4 arg5 harg5 arg6 harg6 arg7 harg7 arg8 harg8 arg9 harg9 arg10 harg10 arg11 harg11 hc0 x0 x1 x2 x3 x4 x5 x6 = nextS x0 x1 x2 x3 (k0_pay2 (F := Ideal) x5) := by
  funext y
  frame_open
  have e0 := Memref.IsWhole.read_unread (Val := Elt Ideal) harg2 x0
  generalize harg2.unread x0 = w0 at *
  subst e0
  have e1 := Memref.IsWhole.read_unread (Val := Elt Ideal) harg3 x1
  generalize harg3.unread x1 = w1 at *
  subst e1
  have e2 := Memref.IsWhole.read_unread (Val := Elt Ideal) harg4 x2
  generalize harg4.unread x2 = w2 at *
  subst e2
  have e3 := Memref.IsWhole.read_unread (Val := Elt Ideal) harg5 x3
  generalize harg5.unread x3 = w3 at *
  subst e3
  have e4 := Memref.IsWhole.read_unread (Val := Elt Ideal) harg7 x5
  generalize harg7.unread x5 = w4 at *
  subst e4
  simp (disch := decide) only [↓ View.readCov_skip, ↓ View.readCov_cons_toLoadRect, ↓ View.readCov_fill]
  frame_out
  refine View.canon_append_of_piecesOf (join ((grp10 (arg2.view.read (Elt Ideal) w0) (arg3.view.read (Elt Ideal) w1) (arg4.view.read (Elt Ideal) w2) (arg5.view.read (Elt Ideal) w3)).next ((grp00 (arg2.view.read (Elt Ideal) w0) (arg3.view.read (Elt Ideal) w1) (arg4.view.read (Elt Ideal) w2) (arg5.view.read (Elt Ideal) w3)).next (half (k0_pay2 (F := Ideal) (arg7.view.read (Elt Ideal) w4)) 0 (by decide)))) ((grp11 (arg2.view.read (Elt Ideal) w0) (arg3.view.read (Elt Ideal) w1) (arg4.view.read (Elt Ideal) w2) (arg5.view.read (Elt Ideal) w3)).next ((grp01 (arg2.view.read (Elt Ideal) w0) (arg3.view.read (Elt Ideal) w1) (arg4.view.read (Elt Ideal) w2) (arg5.view.read (Elt Ideal) w3)).next (half (k0_pay2 (F := Ideal) (arg7.view.read (Elt Ideal) w4)) 512 (by decide))))) [_, _, _] [_, _] ⟨piece1 _ _ _ (by decide) ?_, piece0 _ _ _ (by decide) ?_, trivial⟩ y (cov2 _ _ _ _ y)
  · rfl
  · rfl

set_option pp.deepTerms false
set_option pp.maxSteps 300
set_option maxHeartbeats 0 in
/-- The state output of a later point. -/
theorem out8_B (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S1x128 .f32) (harg8 : arg8.IsWhole) (arg9 : Memref sig .tc .vmem S128x1024 .bf16) (harg9 : arg9.IsWhole) (arg10 : Memref sig .tc .vmem S1x128x1024 .f32) (harg10 : arg10.IsWhole) (arg11 : Memref sig .tc .vmem S128x1024 .f32) (harg11 : arg11.IsWhole) (hc0 : ¬cond0_0 i)
    (x0 : Vec Ideal S128x1024 .f32) (x1 : Vec Ideal S128x1024 .f32) (x2 : Vec Ideal S128x1024 .f32) (x3 : Vec Ideal S128x128 .f32) (x4 : Vec Ideal S128x1024 .f32) (x5 : Vec Ideal S1x128x1024 .f32) (x6 : Vec Ideal S1x128 .f32) (xs0 : Vec Ideal S128x1024 .f32) :
   out0_B_8 c i arg2 harg2 arg3 harg3 arg4 harg4 arg5 harg5 arg6 harg6 arg7 harg7 arg8 harg8 arg9 harg9 arg10 harg10 arg11 harg11 hc0 x0 x1 x2 x3 x4 x5 x6 xs0 = k0_pay1 (F := Ideal) (nextS x0 x1 x2 x3 xs0) := by
  funext y'
  frame_open
  have e0 := Memref.IsWhole.read_unread (Val := Elt Ideal) harg2 x0
  generalize harg2.unread x0 = w0 at *
  subst e0
  have e1 := Memref.IsWhole.read_unread (Val := Elt Ideal) harg3 x1
  generalize harg3.unread x1 = w1 at *
  subst e1
  have e2 := Memref.IsWhole.read_unread (Val := Elt Ideal) harg4 x2
  generalize harg4.unread x2 = w2 at *
  subst e2
  have e3 := Memref.IsWhole.read_unread (Val := Elt Ideal) harg5 x3
  generalize harg5.unread x3 = w3 at *
  subst e3
  have e4 := Memref.IsWhole.read_unread (Val := Elt Ideal) harg11 xs0
  generalize harg11.unread xs0 = w4 at *
  subst e4
  simp (disch := decide) only [↓ View.readCov_skip, ↓ View.readCov_cons_toLoadRect, ↓ View.readCov_fill]
  frame_out
  refine congrFun (congrArg (k0_pay1 (F := Ideal)) (readCov_all _ _ _ (nextS _ _ _ _ _) fun y => ?_)) y'
  refine View.canon_append_of_piecesOf (join ((grp10 (arg2.view.read (Elt Ideal) w0) (arg3.view.read (Elt Ideal) w1) (arg4.view.read (Elt Ideal) w2) (arg5.view.read (Elt Ideal) w3)).next ((grp00 (arg2.view.read (Elt Ideal) w0) (arg3.view.read (Elt Ideal) w1) (arg4.view.read (Elt Ideal) w2) (arg5.view.read (Elt Ideal) w3)).next (half (arg11.view.read (Elt Ideal) w4) 0 (by decide)))) ((grp11 (arg2.view.read (Elt Ideal) w0) (arg3.view.read (Elt Ideal) w1) (arg4.view.read (Elt Ideal) w2) (arg5.view.read (Elt Ideal) w3)).next ((grp01 (arg2.view.read (Elt Ideal) w0) (arg3.view.read (Elt Ideal) w1) (arg4.view.read (Elt Ideal) w2) (arg5.view.read (Elt Ideal) w3)).next (half (arg11.view.read (Elt Ideal) w4) 512 (by decide))))) [_, _] [_, _] ⟨piece1 _ _ _ (by decide) ?_, piece0 _ _ _ (by decide) ?_, trivial⟩ y (cov2 _ _ _ _ y)
  · rfl
  · rfl

set_option pp.deepTerms false
set_option pp.maxSteps 300
set_option maxHeartbeats 0 in
/-- The output block of a point, case B. -/
theorem out7_B (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S1x128 .f32) (harg8 : arg8.IsWhole) (arg9 : Memref sig .tc .vmem S128x1024 .bf16) (harg9 : arg9.IsWhole) (arg10 : Memref sig .tc .vmem S1x128x1024 .f32) (harg10 : arg10.IsWhole) (arg11 : Memref sig .tc .vmem S128x1024 .f32) (harg11 : arg11.IsWhole) (hc0 : ¬cond0_0 i)
    (x0 : Vec Ideal S128x1024 .f32) (x1 : Vec Ideal S128x1024 .f32) (x2 : Vec Ideal S128x1024 .f32) (x3 : Vec Ideal S128x128 .f32) (x4 : Vec Ideal S128x1024 .f32) (x5 : Vec Ideal S1x128x1024 .f32) (x6 : Vec Ideal S1x128 .f32) (xs0 : Vec Ideal S128x1024 .f32) :
   out0_B_7 c i arg2 harg2 arg3 harg3 arg4 harg4 arg5 harg5 arg6 harg6 arg7 harg7 arg8 harg8 arg9 harg9 arg10 harg10 arg11 harg11 hc0 x0 x1 x2 x3 x4 x5 x6 xs0 = glue (odP x0 x1 x2 x3 x4 x6 xs0) := by
  funext y
  frame_open
  have e0 := Memref.IsWhole.read_unread (Val := Elt Ideal) harg2 x0
  generalize harg2.unread x0 = w0 at *
  subst e0
  have e1 := Memref.IsWhole.read_unread (Val := Elt Ideal) harg3 x1
  generalize harg3.unread x1 = w1 at *
  subst e1
  have e2 := Memref.IsWhole.read_unread (Val := Elt Ideal) harg4 x2
  generalize harg4.unread x2 = w2 at *
  subst e2
  have e3 := Memref.IsWhole.read_unread (Val := Elt Ideal) harg5 x3
  generalize harg5.unread x3 = w3 at *
  subst e3
  have e4 := Memref.IsWhole.read_unread (Val := Elt Ideal) harg6 x4
  generalize harg6.unread x4 = w4 at *
  subst e4
  have e5 := Memref.IsWhole.read_unread (Val := Elt Ideal) harg8 x6
  generalize harg8.unread x6 = w5 at *
  subst e5
  have e6 := Memref.IsWhole.read_unread (Val := Elt Ideal) harg11 xs0
  generalize harg11.unread xs0 = w6 at *
  subst e6
  simp (disch := decide) only [↓ View.readCov_skip, ↓ View.readCov_cons_toLoadRect, ↓ View.readCov_fill]
  frame_out
  refine View.canon_append_of_piecesOf (glue (odP (arg2.view.read (Elt Ideal) w0) (arg3.view.read (Elt Ideal) w1) (arg4.view.read (Elt Ideal) w2) (arg5.view.read (Elt Ideal) w3) (arg6.view.read (Elt Ideal) w4) (arg8.view.read (Elt Ideal) w5) (arg11.view.read (Elt Ideal) w6))) [] [_, _, _, _, _, _, _, _, _, _, _, _, _, _, _, _] ⟨pieceO _ _ 1 7 _ _ rfl rfl (by decide) ?_, pieceO _ _ 1 6 _ _ rfl rfl (by decide) ?_, pieceO _ _ 1 5 _ _ rfl rfl (by decide) ?_, pieceO _ _ 1 4 _ _ rfl rfl (by decide) ?_, pieceO _ _ 1 3 _ _ rfl rfl (by decide) ?_, pieceO _ _ 1 2 _ _ rfl rfl (by decide) ?_, pieceO _ _ 1 1 _ _ rfl rfl (by decide) ?_, pieceO _ _ 1 0 _ _ rfl rfl (by decide) ?_, pieceO _ _ 0 7 _ _ rfl rfl (by decide) ?_, pieceO _ _ 0 6 _ _ rfl rfl (by decide) ?_, pieceO _ _ 0 5 _ _ rfl rfl (by decide) ?_, pieceO _ _ 0 4 _ _ rfl rfl (by decide) ?_, pieceO _ _ 0 3 _ _ rfl rfl (by decide) ?_, pieceO _ _ 0 2 _ _ rfl rfl (by decide) ?_, pieceO _ _ 0 1 _ _ rfl rfl (by decide) ?_, pieceO _ _ 0 0 _ _ rfl rfl (by decide) ?_, trivial⟩ y (View.cover_of_tiledL (s := S128x1024) _ S64x128.size (by sl_kernel_rfl) y)
  all_goals rfl

set_option pp.deepTerms false
set_option pp.maxSteps 300
set_option maxHeartbeats 0 in
/-- The output block of a point, case A. -/
theorem out7_A (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S1x128 .f32) (harg8 : arg8.IsWhole) (arg9 : Memref sig .tc .vmem S128x1024 .bf16) (harg9 : arg9.IsWhole) (arg10 : Memref sig .tc .vmem S1x128x1024 .f32) (harg10 : arg10.IsWhole) (arg11 : Memref sig .tc .vmem S128x1024 .f32) (harg11 : arg11.IsWhole) (hc0 : cond0_0 i)
    (x0 : Vec Ideal S128x1024 .f32) (x1 : Vec Ideal S128x1024 .f32) (x2 : Vec Ideal S128x1024 .f32) (x3 : Vec Ideal S128x128 .f32) (x4 : Vec Ideal S128x1024 .f32) (x5 : Vec Ideal S1x128x1024 .f32) (x6 : Vec Ideal S1x128 .f32) :
   out0_A_7 c i arg2 harg2 arg3 harg3 arg4 harg4 arg5 harg5 arg6 harg6 arg7 harg7 arg8 harg8 arg9 harg9 arg10 harg10 arg11 harg11 hc0 x0 x1 x2 x3 x4 x5 x6 = glue (odP x0 x1 x2 x3 x4 x6 (k0_pay2 (F := Ideal) x5)) := by
  funext y
  frame_open
  have e0 := Memref.IsWhole.read_unread (Val := Elt Ideal) harg2 x0
  generalize harg2.unread x0 = w0 at *
  subst e0
  have e1 := Memref.IsWhole.read_unread (Val := Elt Ideal) harg3 x1
  generalize harg3.unread x1 = w1 at *
  subst e1
  have e2 := Memref.IsWhole.read_unread (Val := Elt Ideal) harg4 x2
  generalize harg4.unread x2 = w2 at *
  subst e2
  have e3 := Memref.IsWhole.read_unread (Val := Elt Ideal) harg5 x3
  generalize harg5.unread x3 = w3 at *
  subst e3
  have e4 := Memref.IsWhole.read_unread (Val := Elt Ideal) harg6 x4
  generalize harg6.unread x4 = w4 at *
  subst e4
  have e5 := Memref.IsWhole.read_unread (Val := Elt Ideal) harg8 x6
  generalize harg8.unread x6 = w5 at *
  subst e5
  have e6 := Memref.IsWhole.read_unread (Val := Elt Ideal) harg7 x5
  generalize harg7.unread x5 = w6 at *
  subst e6
  simp (disch := decide) only [↓ View.readCov_skip, ↓ View.readCov_cons_toLoadRect, ↓ View.readCov_fill]
  frame_out
  refine View.canon_append_of_piecesOf (glue (odP (arg2.view.read (Elt Ideal) w0) (arg3.view.read (Elt Ideal) w1) (arg4.view.read (Elt Ideal) w2) (arg5.view.read (Elt Ideal) w3) (arg6.view.read (Elt Ideal) w4) (arg8.view.read (Elt Ideal) w5) (k0_pay2 (F := Ideal) (arg7.view.read (Elt Ideal) w6)))) [] [_, _, _, _, _, _, _, _, _, _, _, _, _, _, _, _] ⟨pieceO _ _ 1 7 _ _ rfl rfl (by decide) ?_, pieceO _ _ 1 6 _ _ rfl rfl (by decide) ?_, pieceO _ _ 1 5 _ _ rfl rfl (by decide) ?_, pieceO _ _ 1 4 _ _ rfl rfl (by decide) ?_, pieceO _ _ 1 3 _ _ rfl rfl (by decide) ?_, pieceO _ _ 1 2 _ _ rfl rfl (by decide) ?_, pieceO _ _ 1 1 _ _ rfl rfl (by decide) ?_, pieceO _ _ 1 0 _ _ rfl rfl (by decide) ?_, pieceO _ _ 0 7 _ _ rfl rfl (by decide) ?_, pieceO _ _ 0 6 _ _ rfl rfl (by decide) ?_, pieceO _ _ 0 5 _ _ rfl rfl (by decide) ?_, pieceO _ _ 0 4 _ _ rfl rfl (by decide) ?_, pieceO _ _ 0 3 _ _ rfl rfl (by decide) ?_, pieceO _ _ 0 2 _ _ rfl rfl (by decide) ?_, pieceO _ _ 0 1 _ _ rfl rfl (by decide) ?_, pieceO _ _ 0 0 _ _ rfl rfl (by decide) ?_, trivial⟩ y (View.cover_of_tiledL (s := S128x1024) _ S64x128.size (by sl_kernel_rfl) y)
  all_goals rfl

end Cert.KernelIdeal.Body
-- ==== Proof.Inverse.lean ====
module

public import Mathlib.Data.Real.Basic
public import Mathlib.LinearAlgebra.Matrix.NonsingularInverse
public import Mathlib.Tactic.NoncommRing
public import Mathlib.Tactic.Linarith
public import Mathlib.Tactic.Ring

@[expose] public section

noncomputable section

namespace Cert.Inverse

/-- A square matrix over the four heads' stacked tokens. -/
abbrev M := Matrix (Fin 256) (Fin 256) ℝ

/-- The matrix is zero outside its diagonal blocks of `n`. -/
def Blk (n : ℕ) (A : M) : Prop := ∀ r c, A r c ≠ 0 → r.val / n = c.val / n

/-- The matrix lives in blocks of sixteen, at least `n` below the diagonal. -/
def Sup (n : ℕ) (A : M) : Prop := ∀ r c, A r c ≠ 0 → r.val / 16 = c.val / 16 ∧ c.val + n ≤ r.val

theorem mul_ne {A B : M} {r c : Fin 256} (h : (A * B) r c ≠ 0) : ∃ k, A r k ≠ 0 ∧ B k c ≠ 0 := by
  rw [Matrix.mul_apply] at h
  obtain ⟨k, -, hk⟩ := Finset.exists_ne_zero_of_sum_ne_zero h
  exact ⟨k, left_ne_zero_of_mul hk, right_ne_zero_of_mul hk⟩

theorem Sup.mul {m n : ℕ} {A B : M} (hA : Sup m A) (hB : Sup n B) : Sup (m + n) (A * B) := by
  intro r c h
  obtain ⟨k, h1, h2⟩ := mul_ne h
  have := hA _ _ h1
  have := hB _ _ h2
  omega

theorem Sup.zero {A : M} (h : Sup 16 A) : A = 0 := by
  ext r c
  by_contra hne
  have := h r c hne
  omega

theorem Blk.mul {n : ℕ} {A B : M} (hA : Blk n A) (hB : Blk n B) : Blk n (A * B) := by
  intro r c h
  obtain ⟨k, h1, h2⟩ := mul_ne h
  rw [hA _ _ h1, hB _ _ h2]

theorem Blk.add {n : ℕ} {A B : M} (hA : Blk n A) (hB : Blk n B) : Blk n (A + B) := by
  intro r c h
  by_cases h1 : A r c = 0
  · refine hB r c fun h2 => h ?_
    rw [Matrix.add_apply, h1, h2, add_zero]
  · exact hA r c h1

theorem Blk.one {n : ℕ} : Blk n (1 : M) := by
  intro r c h
  rw [Matrix.one_apply] at h
  split_ifs at h with e
  · rw [e]
  · exact absurd rfl h

theorem Blk.mono {n : ℕ} (m : ℕ) {A : M} (h : Blk n A) : Blk (n * m) A := by
  intro r c hne
  rw [← Nat.div_div_eq_div_mul, ← Nat.div_div_eq_div_mul, h r c hne]

/-- The entries of `x` that a mask keeps. -/
def keep (p : Fin 256 → Fin 256 → Prop) [∀ r c, Decidable (p r c)] (x : M) : M := fun r c => if p r c then x r c else 0

/-- The inverse on blocks of sixteen. -/
def p1 (y : M) : M :=
  let p := 1 + y
  let y2 := y * y
  let p' := p + p * y2
  let y4 := y2 * y2
  let p'' := p' + p' * y4
  let y8 := y4 * y4
  p'' + p'' * y8

/-- The diagonal blocks of sixteen of `x`. -/
def dg (x : M) : M := keep (fun r c => r.val / 16 = c.val / 16) x
/-- The off-diagonal halves of the blocks of thirty-two. -/
def o1 (x : M) : M := keep (fun r c => r.val / 32 = c.val / 32 ∧ r.val / 16 ≠ c.val / 16) x
/-- The off-diagonal halves of the blocks of sixty-four. -/
def o2 (x : M) : M := keep (fun r c => r.val / 64 = c.val / 64 ∧ r.val / 32 ≠ c.val / 32) x

/-- One doubling of the block size. -/
def merge (p o : M) : M := p + p * o * p

/-- The whole inverse. -/
def inv (x : M) : M := merge (merge (p1 (dg x)) (o1 x)) (o2 x)

theorem p1_mul (y : M) (h : Sup 1 y) : (1 - y) * p1 y = 1 := by
  have h2 := h.mul h
  have h4 := h2.mul h2
  have h8 := h4.mul h4
  have h16 : y * y * (y * y) * (y * y * (y * y)) * (y * y * (y * y) * (y * y * (y * y))) = 0 := (h8.mul h8).zero
  have e : (1 - y) * p1 y = 1 - y * y * (y * y) * (y * y * (y * y)) * (y * y * (y * y) * (y * y * (y * y))) := by
    unfold p1
    noncomm_ring
  rw [e, h16, sub_zero]

theorem p1_blk (y : M) (h : Blk 16 y) : Blk 16 (p1 y) := by
  have h2 := h.mul h
  have hp := Blk.one.add h
  have hp' := hp.add (hp.mul h2)
  have h4 := h2.mul h2
  have hp'' := hp'.add (hp'.mul h4)
  exact hp''.add (hp''.mul (h4.mul h4))

theorem merge_mul (p o d : M) (h : (1 - d) * p = 1) (ho : o * p * o = 0) : (1 - (d + o)) * merge p o = 1 := by
  have e : (1 - (d + o)) * merge p o = (1 - d) * p + (1 - d) * p * (o * p) - o * p - o * p * o * p := by
    unfold merge
    noncomm_ring
  rw [e, h, ho]
  simp

/-- Off-diagonal halves meet across block-diagonal matrices in zero. -/
theorem off_zero (n : ℕ) (p o : M) (hp : Blk n p) (ho : ∀ r c, o r c ≠ 0 → r.val / (2 * n) = c.val / (2 * n) ∧ r.val / n ≠ c.val / n ∧ c < r) : o * p * o = 0 := by
  ext r c
  by_contra hne
  obtain ⟨l, h1, h2⟩ := mul_ne hne
  obtain ⟨k, h3, h4⟩ := mul_ne h1
  obtain ⟨a1, a2, a3⟩ := ho _ _ h2
  obtain ⟨b1, b2, b3⟩ := ho _ _ h3
  have e := hp _ _ h4
  rw [Nat.mul_comm, ← Nat.div_div_eq_div_mul, ← Nat.div_div_eq_div_mul] at a1 b1
  have a4 : c.val / n ≤ l.val / n := Nat.div_le_div_right a3.le
  have b4 : k.val / n ≤ r.val / n := Nat.div_le_div_right b3.le
  omega

variable (x : M) (hx : ∀ r c, x r c ≠ 0 → r.val / 64 = c.val / 64 ∧ c < r)

include hx in
/-- The inverse is a left inverse of `1 - x`. -/
theorem inv_mul : inv x * (1 - x) = 1 := by
  have kp : ∀ (p : Fin 256 → Fin 256 → Prop) [∀ r c, Decidable (p r c)] (r c), keep p x r c ≠ 0 → p r c ∧ x r c ≠ 0 := by
    intro p _ r c h
    unfold keep at h
    split_ifs at h with e
    · exact ⟨e, h⟩
    · exact absurd rfl h
  have hd : Sup 1 (dg x) := by
    intro r c h
    obtain ⟨h1, h2⟩ := kp _ _ _ h
    have := (hx _ _ h2).2
    exact ⟨h1, this⟩
  have hdb : Blk 16 (dg x) := fun r c h => (hd r c h).1
  have b1 := p1_blk _ hdb
  have z1 : o1 x * p1 (dg x) * o1 x = 0 := off_zero 16 _ _ b1 fun r c h => by
    obtain ⟨h1, h2⟩ := kp _ _ _ h
    exact ⟨h1.1, h1.2, (hx _ _ h2).2⟩
  have m1 := merge_mul _ _ _ (p1_mul _ hd) z1
  have ob1 : Blk 32 (o1 x) := fun r c h => (kp _ _ _ h).1.1
  have b2 : Blk 32 (merge (p1 (dg x)) (o1 x)) := (b1.mono 2).add (((b1.mono 2).mul ob1).mul (b1.mono 2))
  have z2 : o2 x * merge (p1 (dg x)) (o1 x) * o2 x = 0 := off_zero 32 _ _ b2 fun r c h => by
    obtain ⟨h1, h2⟩ := kp _ _ _ h
    exact ⟨h1.1, h1.2, (hx _ _ h2).2⟩
  have m2 := merge_mul _ _ _ m1 z2
  have e : dg x + o1 x + o2 x = x := by
    ext r c
    simp only [Matrix.add_apply, dg, o1, o2, keep]
    by_cases h0 : x r c = 0
    · simp [h0]
    · have := hx r c h0
      by_cases h1 : r.val / 16 = c.val / 16
      · have h2 : r.val / 32 = c.val / 32 := by omega
        simp [h1, h2]
      · by_cases h2 : r.val / 32 = c.val / 32
        · simp [h1, h2]
        · simp [h1, h2, this.1]
  rw [e] at m2
  exact mul_eq_one_comm.mp m2

include hx in
/-- The inverse keeps the heads apart. -/
theorem inv_blk : Blk 64 (inv x) := by
  have kp : ∀ (p : Fin 256 → Fin 256 → Prop) [∀ r c, Decidable (p r c)] (r c), keep p x r c ≠ 0 → p r c ∧ x r c ≠ 0 := by
    intro p _ r c h
    unfold keep at h
    split_ifs at h with e
    · exact ⟨e, h⟩
    · exact absurd rfl h
  have b1 := (p1_blk (dg x) (fun r c h => (kp _ _ _ h).1)).mono 2
  have ob1 : Blk 32 (o1 x) := fun r c h => (kp _ _ _ h).1.1
  have b2 := (b1.add ((b1.mul ob1).mul b1)).mono 2
  have ob2 : Blk 64 (o2 x) := fun r c h => (kp _ _ _ h).1.1
  exact b2.add ((b2.mul ob2).mul b2)

end Cert.Inverse
-- ==== Proof.Delta.lean ====
module

public import proofs.«01_k».proof.Proof.Inverse
public import Mathlib.Analysis.SpecialFunctions.Exp
public import Mathlib.Tactic.FieldSimp

@[expose] public section

noncomputable section

namespace Cert.Delta
open Real Finset

/-- One head's tokens: keys, queries, values, rates and log decays. -/
structure Toks where
  k : ℕ → Fin 128 → ℝ
  q : ℕ → Fin 128 → ℝ
  v : ℕ → Fin 128 → ℝ
  b : ℕ → ℝ
  g : ℕ → ℝ

/-- The head's state: one number for each key and value coordinate. -/
abbrev State := Fin 128 → Fin 128 → ℝ

namespace Toks
variable (T : Toks)

/-- Token `t`'s update from the state before it. -/
def upd (s : State) (t : ℕ) : Fin 128 → ℝ := fun j => T.b t * (T.v t j - ∑ a, T.k t a * (exp (T.g t) * s a j))
/-- The state after token `t`. -/
def step (s : State) (t : ℕ) : State := fun a j => exp (T.g t) * s a j + T.k t a * T.upd s t j
/-- The state before token `n`. -/
def st (s : State) : ℕ → State
  | 0 => s
  | n + 1 => T.step (st s n) n
/-- Token `n`'s update along the recurrence. -/
def u (s : State) (n : ℕ) : Fin 128 → ℝ := T.upd (T.st s n) n
/-- Token `n`'s output. -/
def out (s : State) (n : ℕ) : Fin 128 → ℝ := fun j => ∑ a, T.q n a * T.st s (n + 1) a j
/-- The tokens from `n` on. -/
def shift (n : ℕ) : Toks := ⟨fun t => T.k (n + t), fun t => T.q (n + t), fun t => T.v (n + t), fun t => T.b (n + t), fun t => T.g (n + t)⟩
/-- The cumulated log decay of the first `n` tokens. -/
def G (n : ℕ) : ℝ := ∑ j ∈ range n, T.g j

/-- Running on from token `n` is running the later tokens. -/
theorem st_add (s : State) (n i : ℕ) : T.st s (n + i) = (T.shift n).st (T.st s n) i := by
  induction i with
  | zero => rfl
  | succ i ih =>
    show T.step (T.st s (n + i)) (n + i) = (T.shift n).step _ i
    rw [ih]; rfl

theorem out_add (s : State) (n i : ℕ) : T.out s (n + i) = (T.shift n).out (T.st s n) i := by
  funext j
  show ∑ a, T.q (n + i) a * T.st s (n + (i + 1)) a j = _
  rw [T.st_add]; rfl

/-- The state in closed form: the decayed initial state and the decayed updates. -/
theorem st_closed (s : State) (n : ℕ) (a j : Fin 128) :
    T.st s n a j = exp (T.G n) * s a j + ∑ i ∈ range n, exp (T.G n - T.G (i + 1)) * (T.k i a * T.u s i j) := by
  induction n with
  | zero => simp [st, G]
  | succ n ih =>
    have hG : T.G (n + 1) = T.G n + T.g n := by simp [G, sum_range_succ]
    show exp (T.g n) * T.st s n a j + T.k n a * T.u s n j = _
    rw [sum_range_succ, sub_self, exp_zero, one_mul, ih, mul_add, ← mul_assoc, ← exp_add, add_comm (T.g n), ← hG, mul_sum, add_assoc]
    congr 2
    refine sum_congr rfl fun i _ => ?_
    rw [← mul_assoc, ← exp_add, hG]
    congr 2
    ring

/-- A vector against the decayed state. -/
theorem dot_st (s : State) (n : ℕ) (w : Fin 128 → ℝ) (j : Fin 128) :
    ∑ a, w a * T.st s n a j = exp (T.G n) * ∑ a, w a * s a j + ∑ i ∈ range n, (∑ a, w a * T.k i a) * exp (T.G n - T.G (i + 1)) * T.u s i j := by
  simp only [T.st_closed, mul_add, sum_add_distrib, mul_sum, sum_mul]
  congr 1
  · exact sum_congr rfl fun a _ => by ring
  · rw [sum_comm]
    exact sum_congr rfl fun i _ => sum_congr rfl fun a _ => by ring

theorem u_closed (s : State) (n : ℕ) (j : Fin 128) :
    T.u s n j + ∑ i ∈ range n, (∑ a, T.k n a * T.b n * T.k i a) * exp (T.G (n + 1) - T.G (i + 1)) * T.u s i j
      = T.v n j * T.b n - ∑ a, T.k n a * T.b n * exp (T.G (n + 1)) * s a j := by
  have hG : T.G (n + 1) = T.G n + T.g n := by simp [G, sum_range_succ]
  have e : T.u s n j = T.v n j * T.b n - exp (T.g n) * ∑ a, T.k n a * T.b n * T.st s n a j := by
    show T.b n * (T.v n j - ∑ a, T.k n a * (exp (T.g n) * T.st s n a j)) = _
    rw [mul_sub, mul_comm (T.b n), mul_sum, mul_sum]
    congr 1
    exact sum_congr rfl fun a _ => by ring
  rw [e, T.dot_st s n (fun a => T.k n a * T.b n) j, mul_add, ← mul_assoc, ← exp_add, add_comm (T.g n), ← hG, mul_sum, mul_sum]
  have e1 : ∀ i, exp (T.G (n + 1) - T.G (i + 1)) = exp (T.g n) * exp (T.G n - T.G (i + 1)) := fun i => by
    rw [← exp_add, hG]; congr 1; ring
  have e2 : ∑ i ∈ range n, (∑ a, T.k n a * T.b n * T.k i a) * exp (T.G (n + 1) - T.G (i + 1)) * T.u s i j
      = ∑ i ∈ range n, exp (T.g n) * ((∑ a, T.k n a * T.b n * T.k i a) * exp (T.G n - T.G (i + 1)) * T.u s i j) :=
    sum_congr rfl fun i _ => by rw [e1]; ring
  have e3 : ∑ a, T.k n a * T.b n * exp (T.G (n + 1)) * s a j = ∑ a, exp (T.G (n + 1)) * (T.k n a * T.b n * s a j) :=
    sum_congr rfl fun a _ => by ring
  rw [e2, e3]
  ring
end Toks

/-! ## Four heads' chunks stacked -/

/-- The head of a stacked row. -/
def hd (r : Fin 256) : Fin 4 := ⟨r.val / 64, by omega⟩
/-- The token of a stacked row. -/
def tk (r : Fin 256) : ℕ := r.val % 64

theorem sum_hd (h : Fin 4) (f : ℕ → ℝ) : ∑ c : Fin 256, (if hd c = h then f (tk c) else 0) = ∑ j ∈ range 64, f j := by
  rw [← sum_filter]
  refine sum_bij' (fun c _ => tk c) (fun j hj => (⟨64 * h.val + j, by have := h.isLt; have := mem_range.mp hj; omega⟩ : Fin 256)) ?_ ?_ ?_ ?_ ?_
  · intro c _; exact mem_range.mpr (Nat.mod_lt _ (by decide))
  · intro j hj
    have := mem_range.mp hj
    refine mem_filter.mpr ⟨mem_univ _, Fin.ext ?_⟩
    show (64 * h.val + j) / 64 = h.val
    omega
  · intro c hc
    have := congrArg Fin.val (mem_filter.mp hc).2
    refine Fin.ext ?_
    show 64 * h.val + c.val % 64 = c.val
    have e : c.val / 64 = h.val := this
    omega
  · intro j hj
    have := mem_range.mp hj
    show (64 * h.val + j) % 64 = j
    omega
  · intro c hc; rfl

/-- A sum over an initial part of a head's rows. -/
theorem sum_hd_lt (h : Fin 4) (n : ℕ) (hn : n ≤ 64) (f : ℕ → ℝ) :
    ∑ c : Fin 256, (if hd c = h then (if tk c < n then f (tk c) else 0) else 0) = ∑ j ∈ range n, f j := by
  rw [sum_hd h (fun j => if j < n then f j else 0), ← sum_filter]
  refine sum_congr ?_ fun _ _ => rfl
  ext j
  simp only [mem_filter, mem_range]
  omega

section stacked
variable (T : Fin 4 → Toks) (s : Fin 4 → State)

/-- A stacked row's key. -/
def K (r : Fin 256) : Fin 128 → ℝ := (T (hd r)).k (tk r)
/-- A stacked row's query. -/
def Q (r : Fin 256) : Fin 128 → ℝ := (T (hd r)).q (tk r)
/-- A stacked row's value. -/
def V (r : Fin 256) : Fin 128 → ℝ := (T (hd r)).v (tk r)
/-- A stacked row's rate. -/
def B (r : Fin 256) : ℝ := (T (hd r)).b (tk r)
/-- A stacked row's cumulated log decay. -/
def Gc (r : Fin 256) : ℝ := (T (hd r)).G (tk r + 1)
/-- A stacked row's head's cumulated log decay over the chunk. -/
def Gl (h : Fin 4) : ℝ := (T h).G 64
/-- The decay between two rows. -/
def dec (r c : Fin 256) : ℝ := if r.val / 64 = c.val / 64 ∧ c.val ≤ r.val then exp (Gc T r - Gc T c) else 0
/-- Minus the strictly causal interaction. -/
def X : Inverse.M := fun r c => 0 - (if r.val / 64 = c.val / 64 ∧ c.val < r.val then (∑ a, K T r a * B T r * K T c a) * dec T r c else 0)
/-- The queries' interaction. -/
def intra : Inverse.M := fun r c => if r.val / 64 = c.val / 64 ∧ c.val ≤ r.val then (∑ a, Q T r a * K T c a) * dec T r c else 0
/-- The updates by the recurrence. -/
def U (r : Fin 256) : Fin 128 → ℝ := (T (hd r)).u (s (hd r)) (tk r)

theorem X_supp (r c : Fin 256) (h : X T r c ≠ 0) : r.val / 64 = c.val / 64 ∧ c < r := by
  unfold X at h
  split_ifs at h with e
  · exact ⟨e.1, e.2⟩
  · exact absurd (sub_zero _) h

theorem X_apply (r c : Fin 256) : X T r c = if hd c = hd r then (if tk c < tk r then -((∑ a, (T (hd r)).k (tk r) a * (T (hd r)).b (tk r) * (T (hd r)).k (tk c) a) * exp ((T (hd r)).G (tk r + 1) - (T (hd r)).G (tk c + 1))) else 0) else 0 := by
  by_cases h : hd c = hd r
  · have h' : c.val / 64 = r.val / 64 := congrArg Fin.val h
    rw [if_pos h]
    by_cases h2 : tk c < tk r
    · have h3 : c.val < r.val := by unfold tk at h2; omega
      rw [if_pos h2]
      simp only [X, dec, K, B, Gc]
      rw [if_pos ⟨h'.symm, h3⟩, if_pos ⟨h'.symm, h3.le⟩, h, zero_sub]
    · have h3 : ¬ c.val < r.val := by unfold tk at h2; omega
      rw [if_neg h2]
      simp only [X]
      rw [if_neg (fun e => h3 e.2), sub_zero]
  · rw [if_neg h]
    simp only [X]
    rw [if_neg (fun e => h (Fin.ext e.1.symm)), sub_zero]

theorem intra_apply (r c : Fin 256) : intra T r c = if hd c = hd r then (if tk c < tk r + 1 then (∑ a, (T (hd r)).q (tk r) a * (T (hd r)).k (tk c) a) * exp ((T (hd r)).G (tk r + 1) - (T (hd r)).G (tk c + 1)) else 0) else 0 := by
  by_cases h : hd c = hd r
  · have h' : c.val / 64 = r.val / 64 := congrArg Fin.val h
    rw [if_pos h]
    by_cases h2 : tk c < tk r + 1
    · have h3 : c.val ≤ r.val := by unfold tk at h2; omega
      rw [if_pos h2]
      simp only [intra, dec, K, Q, Gc]
      rw [if_pos ⟨h'.symm, h3⟩, if_pos ⟨h'.symm, h3⟩, h]
    · have h3 : ¬ c.val ≤ r.val := by unfold tk at h2; omega
      rw [if_neg h2]
      simp only [intra]
      rw [if_neg (fun e => h3 e.2)]
  · rw [if_neg h]
    simp only [intra]
    rw [if_neg (fun e => h (Fin.ext e.1.symm))]

theorem tk_lt (r : Fin 256) : tk r < 64 := Nat.mod_lt _ (by decide)

theorem U_eq (r : Fin 256) (j : Fin 128) :
    U T s r j - ∑ c, X T r c * U T s c j = V T r j * B T r - ∑ a, K T r a * B T r * exp (Gc T r) * s (hd r) a j := by
  have e := (T (hd r)).u_closed (s (hd r)) (tk r) j
  rw [← sum_hd_lt (hd r) (tk r) (tk_lt r).le (fun i => (∑ a, (T (hd r)).k (tk r) a * (T (hd r)).b (tk r) * (T (hd r)).k i a) * exp ((T (hd r)).G (tk r + 1) - (T (hd r)).G (i + 1)) * (T (hd r)).u (s (hd r)) i j)] at e
  refine Eq.trans ?_ e
  rw [sub_eq_add_neg, ← sum_neg_distrib]
  refine congrArg (U T s r j + ·) (sum_congr rfl fun c _ => ?_)
  rw [X_apply]
  split_ifs with h1 h2
  · simp only [U, h1]; ring
  · simp
  · simp

/-- The inverse solves for the updates. -/
theorem solve (r : Fin 256) (j : Fin 128) :
    ∑ c, Inverse.inv (X T) r c * (V T c j * B T c) - ∑ a, (∑ c, Inverse.inv (X T) r c * (K T c a * B T c * exp (Gc T c))) * s (hd r) a j = U T s r j := by
  have hp := Inverse.inv_mul (X T) (X_supp T)
  have hb := Inverse.inv_blk (X T) (X_supp T)
  set p := Inverse.inv (X T) with hpdef
  have e1 : ∑ a, (∑ c, p r c * (K T c a * B T c * exp (Gc T c))) * s (hd r) a j = ∑ c, p r c * ∑ a, K T c a * B T c * exp (Gc T c) * s (hd c) a j := by
    simp only [sum_mul, mul_sum]
    rw [sum_comm]
    refine sum_congr rfl fun c _ => sum_congr rfl fun a _ => ?_
    by_cases h : p r c = 0
    · simp [h]
    · have : hd c = hd r := Fin.ext (hb r c h).symm
      rw [this]; ring
  rw [e1, ← sum_sub_distrib]
  have e2 : ∀ c, p r c * (V T c j * B T c) - p r c * ∑ a, K T c a * B T c * exp (Gc T c) * s (hd c) a j = p r c * ((1 - X T).mulVec (fun c => U T s c j)) c := by
    intro c
    rw [← mul_sub, ← U_eq, Matrix.sub_mulVec, Matrix.one_mulVec]
    rfl
  rw [sum_congr rfl fun c _ => e2 c]
  show (p.mulVec ((1 - X T).mulVec (fun c => U T s c j))) r = _
  rw [Matrix.mulVec_mulVec, hp, Matrix.one_mulVec]

/-- The outputs of the chunk. -/
theorem out_eq (r : Fin 256) (j : Fin 128) :
    ∑ a, Q T r a * exp (Gc T r) * s (hd r) a j + ∑ c, intra T r c * U T s c j = (T (hd r)).out (s (hd r)) (tk r) j := by
  have e := (T (hd r)).dot_st (s (hd r)) (tk r + 1) ((T (hd r)).q (tk r)) j
  rw [← sum_hd_lt (hd r) (tk r + 1) (tk_lt r) (fun i => (∑ a, (T (hd r)).q (tk r) a * (T (hd r)).k i a) * exp ((T (hd r)).G (tk r + 1) - (T (hd r)).G (i + 1)) * (T (hd r)).u (s (hd r)) i j)] at e
  refine Eq.trans ?_ e.symm
  congr 1
  · rw [mul_sum]
    exact sum_congr rfl fun a _ => by simp only [Q, Gc]; ring
  · refine sum_congr rfl fun c _ => ?_
    rw [intra_apply]
    split_ifs with h1 h2
    · simp only [U, h1]
    · simp
    · simp

/-- The state after the chunk. -/
theorem next_eq (h : Fin 4) (a j : Fin 128) :
    s h a j * exp (Gl T h) + ∑ r : Fin 256, K T r a * exp (Gl T (hd r) - Gc T r) * (if hd r = h then U T s r j else 0) = (T h).st (s h) 64 a j := by
  rw [(T h).st_closed, ← sum_hd h (fun i => exp ((T h).G 64 - (T h).G (i + 1)) * ((T h).k i a * (T h).u (s h) i j))]
  congr 1
  · exact mul_comm _ _
  · refine sum_congr rfl fun r _ => ?_
    split_ifs with e
    · simp only [K, Gl, Gc, U, e]; ring
    · simp
end stacked
end Cert.Delta
-- ==== Proof.Lift.lean ====
module

public import proofs.«01_k».proof.Proof.Match
public import proofs.«01_k».proof.Proof.Delta
public import Idealize.ShloMosaic.Lib.Pointwise

@[expose] public section

set_option maxRecDepth 16384

noncomputable section

open Idealize.ShloMosaic Idealize.ShloMosaic.TcCoe Idealize.SL.Sem

namespace Cert.KernelIdeal.Body
open Cert.KernelIdeal Cert.KernelIdeal.Gen
open Idealize.ShloMosaic.WordCmp

/-- A real matrix as an array of extended reals. -/
def L {m n : ℕ} {φ : FTy} (A : Fin m → Fin n → ℝ) : FVec Ideal ⟨2, ![m, n]⟩ φ := fun i => ((A (i 0) (i 1) : ℝ) : EReal)

theorem L_apply {m n : ℕ} {φ : FTy} (A : Fin m → Fin n → ℝ) (i : Fin m) (j : Fin n) : L (φ := φ) A (ix2 i j) = ((A i j : ℝ) : EReal) := rfl

/-- A square real matrix as an array of extended reals. -/
def LM (A : Inverse.M) : FVec Ideal S256x256 .f32 := L (fun r c => A r c)

theorem LM_apply (A : Inverse.M) (i j : Fin 256) : LM A (ix2 i j) = ((A i j : ℝ) : EReal) := rfl

theorem coe_sum {n : ℕ} (f : Fin n → ℝ) : ∑ k, ((f k : ℝ) : EReal) = ((∑ k, f k : ℝ) : EReal) := by
  induction (Finset.univ : Finset (Fin n)) using Finset.induction_on with
  | empty => simp
  | insert a s ha ih => rw [Finset.sum_insert ha, Finset.sum_insert ha, ih, EReal.coe_add]

theorem ext2 {m n : ℕ} {φ : FTy} {a b : FVec Ideal ⟨2, ![m, n]⟩ φ} (h : ∀ i j, a (ix2 i j) = b (ix2 i j)) : a = b := by
  funext x
  have e : x = ix2 (x 0) (x 1) := by funext d; fin_cases d <;> rfl
  rw [e]
  exact h _ _

theorem extL {m n : ℕ} {φ : FTy} {a : FVec Ideal ⟨2, ![m, n]⟩ φ} {A : Fin m → Fin n → ℝ} (h : ∀ i j, a (ix2 i j) = ((A i j : ℝ) : EReal)) : a = L A := ext2 h

theorem sel_iff {α : Type} (m : BitVec 1) (p : Prop) [Decidable p] (h : m = 1#1 ↔ p) (a b : α) : Scalar.select m a b = if p then a else b := by
  by_cases hp : p
  · rw [if_pos hp, h.mpr hp]; rfl
  · rw [if_neg hp]
    have : ¬ m = 1#1 := fun e => hp (h.mp e)
    have e0 : m = 0#1 := by clear h; revert this; revert m; decide
    rw [e0]; rfl

theorem andi_iff (a b : BitVec 1) (p q : Prop) (ha : a = 1#1 ↔ p) (hb : b = 1#1 ↔ q) : IntOp.andi a b = 1#1 ↔ p ∧ q := by
  rw [← ha, ← hb]
  clear ha hb
  revert a b
  decide

theorem b01 (m : BitVec 1) (p : Prop) [Decidable p] (h : m = 1#1 ↔ p) : (((BitVec.setWidth 32 m).toInt : ℝ) : EReal) = ((if p then (1 : ℝ) else 0 : ℝ) : EReal) := by
  by_cases hp : p
  · rw [if_pos hp, h.mpr hp]; norm_num
  · rw [if_neg hp]
    have : ¬ m = 1#1 := fun e => hp (h.mp e)
    have e0 : m = 0#1 := by clear h; revert this; revert m; decide
    rw [e0]; norm_num

/-! ## The masks -/

theorem fdiv16 : ∀ r : Fin 256, fdivV (s := S256x1) (fun _ => BitVec.ofNat 32 r.val) 16#32 (ix2 0 0) = BitVec.ofNat 32 (r.val / 16) := by decide +kernel
theorem fdiv32 : ∀ r : Fin 256, fdivV (s := S256x1) (fun _ => BitVec.ofNat 32 r.val) 32#32 (ix2 0 0) = BitVec.ofNat 32 (r.val / 32) := by decide +kernel
theorem fdiv64 : ∀ r : Fin 256, fdivV (s := S256x1) (fun _ => BitVec.ofNat 32 r.val) 64#32 (ix2 0 0) = BitVec.ofNat 32 (r.val / 64) := by decide +kernel

theorem same_iff (n : BitVec 32) (k : ℕ) (h : ∀ r : Fin 256, fdivV (s := S256x1) (fun _ => BitVec.ofNat 32 r.val) n (ix2 0 0) = BitVec.ofNat 32 (r.val / k)) (r c : Fin 256) :
    sameM n (ix2 r c) = 1#1 ↔ r.val / k = c.val / k := by
  have e : sameM n (ix2 r c) = IntOp.cmpi .eq (fdivV (s := S256x1) (fun _ => BitVec.ofNat 32 r.val) n (ix2 0 0)) (fdivV (s := S256x1) (fun _ => BitVec.ofNat 32 c.val) n (ix2 0 0)) := by
    pointwise [sameM, fdivV, rowI, colI]
  rw [e, h, h]
  have h1 : r.val / k < 2 ^ 32 := lt_of_le_of_lt (Nat.div_le_self _ _) (by omega)
  have h2 : c.val / k < 2 ^ 32 := lt_of_le_of_lt (Nat.div_le_self _ _) (by omega)
  exact cmpi_eq_ofNat_eq_one_iff h1 h2
theorem diff_iff (n : BitVec 32) (k : ℕ) (h : ∀ r : Fin 256, fdivV (s := S256x1) (fun _ => BitVec.ofNat 32 r.val) n (ix2 0 0) = BitVec.ofNat 32 (r.val / k)) (r c : Fin 256) :
    diffM n (ix2 r c) = 1#1 ↔ r.val / k ≠ c.val / k := by
  have e : diffM n (ix2 r c) = IntOp.cmpi .ne (fdivV (s := S256x1) (fun _ => BitVec.ofNat 32 r.val) n (ix2 0 0)) (fdivV (s := S256x1) (fun _ => BitVec.ofNat 32 c.val) n (ix2 0 0)) := by
    pointwise [diffM, fdivV, rowI, colI]
  rw [e, h, h]
  have h1 : r.val / k < 2 ^ 32 := lt_of_le_of_lt (Nat.div_le_self _ _) (by omega)
  have h2 : c.val / k < 2 ^ 32 := lt_of_le_of_lt (Nat.div_le_self _ _) (by omega)
  exact cmpi_ne_ofNat_eq_one_iff h1 h2
theorem causal_iff (r c : Fin 256) : causalM (ix2 r c) = 1#1 ↔ r.val / 64 = c.val / 64 ∧ c.val ≤ r.val := by
  have e : causalM (ix2 r c) = IntOp.andi (sameM 64#32 (ix2 r c)) (IntOp.cmpi .sge (BitVec.ofNat 32 r.val) (BitVec.ofNat 32 c.val)) := by
    pointwise [causalM, rowI, colI]
  rw [e]
  exact andi_iff _ _ _ _ (same_iff _ _ fdiv64 r c) (cmpi_sge_ofNat_eq_one_iff (by omega) (by omega))
theorem strict_iff (r c : Fin 256) : strictM (ix2 r c) = 1#1 ↔ r.val / 64 = c.val / 64 ∧ c.val < r.val := by
  have e : strictM (ix2 r c) = IntOp.andi (sameM 64#32 (ix2 r c)) (IntOp.cmpi .sgt (BitVec.ofNat 32 r.val) (BitVec.ofNat 32 c.val)) := by
    pointwise [strictM, rowI, colI]
  rw [e]
  exact andi_iff _ _ _ _ (same_iff _ _ fdiv64 r c) (cmpi_sgt_ofNat_eq_one_iff (by omega) (by omega))
theorem head_iff (r : Fin 256) (j : Fin 4) : IntOp.cmpi .eq (headI (ix2 r 0)) (BitVec.ofNat 32 j.val) = 1#1 ↔ r.val / 64 = j.val := by
  have e : headI (ix2 r 0) = fdivV (s := S256x1) (fun _ => BitVec.ofNat 32 r.val) 64#32 (ix2 0 0) := by
    pointwise [headI, fdivV]
  rw [e, fdiv64]
  exact cmpi_eq_ofNat_eq_one_iff (by omega) (by omega)

/-! ## The stages at real arrays -/

theorem negInf : Ideal.ofBits FTy.f32 4286578688#32 = ⊥ := by
  have h : (4286578688 >>> 23) % 256 = 255 := by decide
  norm_num [Ideal.ofBits, Ideal.ieee, h]
  decide

theorem eyeV_L : eyeV = LM 1 := by
  refine ext2 fun i j => ?_
  pointwise [eyeV, rowI, colI]
  rw [show ∀ w : BitVec 32, (FloatOps.sitofp FTy.f32 w : Ideal .f32) = ((w.toInt : ℝ) : EReal) from fun _ => rfl, b01 _ (i = j) (by rw [cmpi_eq_ofNat_eq_one_iff (by omega) (by omega)]; exact Fin.ext_iff.symm), LM_apply, Matrix.one_apply]

theorem zV_L : zV = L (fun _ _ => 0) := by
  refine ext2 fun i j => ?_
  pointwise [zV]
  simp [L_apply]

theorem addf_L {m n : ℕ} {φ : FTy} (A B : Fin m → Fin n → ℝ) : addf (L (φ := φ) A) (L B) = L (fun i j => A i j + B i j) := ext2 fun i j => (EReal.coe_add _ _).symm
theorem subf_L {m n : ℕ} {φ : FTy} (A B : Fin m → Fin n → ℝ) : subf (L (φ := φ) A) (L B) = L (fun i j => A i j - B i j) := ext2 fun i j => (EReal.coe_sub _ _).symm
theorem mulf_L {m n : ℕ} {φ : FTy} (A B : Fin m → Fin n → ℝ) : mulf (L (φ := φ) A) (L B) = L (fun i j => A i j * B i j) := ext2 fun i j => (EReal.coe_mul _ _).symm
theorem exp_L {m n : ℕ} (A : Fin m → Fin n → ℝ) : exp (L (φ := .f32) A) = L (fun i j => Real.exp (A i j)) := ext2 fun i j => rfl

theorem addf_LM (A B : Inverse.M) : addf (LM A) (LM B) = LM (A + B) := ext2 fun i j => (EReal.coe_add _ _).symm

theorem mmV_L (A B : Inverse.M) : mmV (LM A) (LM B) = LM (A * B) := by
  refine ext2 fun i j => ?_
  pointwise [mmV, bV]
  simp only [LM_apply, ← EReal.coe_mul, coe_sum]
  rw [Matrix.mul_apply]

theorem cat2_L (A B : Fin 256 → Fin 256 → ℝ) : cat2 (L A) (L B) = L (fun i j => if h : i.val < 256 then A ⟨i.val, h⟩ j else B ⟨i.val - 256, by omega⟩ j) := by
  refine ext2 fun i j => ?_
  pointwise [cat2]
  simp only [L_apply]
  split_ifs <;> rfl
theorem mm2V_L (A : Fin 512 → Fin 256 → ℝ) (B : Fin 256 → Fin 256 → ℝ) : mm2V (L A) (L B) = L (fun i j => ∑ k, A i k * B k j) := by
  refine ext2 fun i j => ?_
  pointwise [mm2V, bV]
  simp only [L_apply, ← EReal.coe_mul, coe_sum]
theorem topV_L (A : Fin 512 → Fin 256 → ℝ) : topV (L A) = L (fun i j => A ⟨i.val, by omega⟩ j) := by
  refine ext2 fun i j => ?_
  pointwise [topV]
  simp only [L_apply]
theorem botV_L (A : Fin 512 → Fin 256 → ℝ) : botV (L A) = L (fun i j => A ⟨256 + i.val, by omega⟩ j) := by
  refine ext2 fun i j => ?_
  pointwise [botV]
  simp only [L_apply]
theorem top_mm2 (A B C : Inverse.M) : topV (mm2V (cat2 (LM A) (LM B)) (LM C)) = LM (A * C) := by
  rw [LM, LM, LM, cat2_L, mm2V_L, topV_L, LM]
  congr 1
  funext i j
  rw [Matrix.mul_apply]
  refine Finset.sum_congr rfl fun k _ => ?_
  rw [dif_pos i.isLt]
theorem bot_mm2 (A B C : Inverse.M) : botV (mm2V (cat2 (LM A) (LM B)) (LM C)) = LM (B * C) := by
  rw [LM, LM, LM, cat2_L, mm2V_L, botV_L, LM]
  congr 1
  funext i j
  rw [Matrix.mul_apply]
  refine Finset.sum_congr rfl fun k _ => ?_
  rw [dif_neg (show ¬ (256 + i.val < 256) by omega)]
  congr 2
  exact Fin.ext (show 256 + i.val - 256 = i.val by omega)

theorem yV_L (x : Inverse.M) : yV (LM x) = LM (Inverse.dg x) := by
  refine ext2 fun i j => ?_
  rw [yV, zV_L]
  pointwise
  rw [sel_iff _ _ (same_iff _ _ fdiv16 i j)]
  split_ifs with h
  · exact congrArg Real.toEReal (if_pos h).symm
  · exact congrArg Real.toEReal (if_neg h).symm

theorem p1V_L (x : Inverse.M) : p1V (LM x) = LM (Inverse.p1 (Inverse.dg x)) := by
  simp only [p1V, yV_L, eyeV_L, addf_LM, mmV_L, top_mm2, bot_mm2]
  rfl

theorem merge_L (p o : Inverse.M) : mergeV (LM p) (LM o) = LM (Inverse.merge p o) := by
  rw [mergeV, mmV_L, mmV_L, addf_LM]; rfl

theorem off_L (a b : BitVec 32) (k l : ℕ) (ha : ∀ r c : Fin 256, sameM a (ix2 r c) = 1#1 ↔ r.val / k = c.val / k) (hb : ∀ r c : Fin 256, diffM b (ix2 r c) = 1#1 ↔ r.val / l ≠ c.val / l) (x : Inverse.M) :
    (select (andi (sameM a) (diffM b)) (LM x) zV : FVec Ideal S256x256 .f32) = LM (Inverse.keep (fun r c => r.val / k = c.val / k ∧ r.val / l ≠ c.val / l) x) := by
  refine ext2 fun i j => ?_
  rw [zV_L]
  pointwise
  rw [sel_iff _ _ (andi_iff _ _ _ _ (ha i j) (hb i j))]
  split_ifs with h
  · exact congrArg Real.toEReal (if_pos h).symm
  · exact congrArg Real.toEReal (if_neg h).symm
theorem invV_L (x : Inverse.M) : invV (LM x) = LM (Inverse.inv x) := by
  rw [invV, p1V_L, off_L _ _ 32 16 (same_iff _ _ fdiv32) (diff_iff _ _ fdiv16), off_L _ _ 64 32 (same_iff _ _ fdiv64) (diff_iff _ _ fdiv32)]
  rw [merge_L, merge_L]; rfl

theorem decayV_L (g : Fin 256 → ℝ) (g' : Fin 256 → ℝ) : decayV (L (fun r _ => g r)) (L (fun _ c => g' c)) = L (fun r c => if r.val / 64 = c.val / 64 ∧ c.val ≤ r.val then Real.exp (g r - g' c) else 0) := by
  refine ext2 fun i j => ?_
  pointwise [decayV]
  rw [sel_iff _ _ (causal_iff i j), negInf]
  simp only [L_apply]
  split_ifs
  · rfl
  · rfl
theorem laneV_L (b : Fin 256 → ℝ) : laneV (L (fun r _ => b r)) = L (fun r _ => b r) := by
  refine ext2 fun i j => ?_
  pointwise [laneV]
  simp only [L_apply]
theorem kqV_top (a q k : Fin 256 → Fin 128 → ℝ) : topV (kqV (L a) (L q) (L k)) = L (fun r c => ∑ d, a r d * k c d) := by
  refine ext2 fun i j => ?_
  pointwise [topV, kqV, bV]
  simp only [i.isLt, dif_pos, L_apply, ← EReal.coe_mul, coe_sum]
theorem kqV_bot (a q k : Fin 256 → Fin 128 → ℝ) : botV (kqV (L a) (L q) (L k)) = L (fun r c => ∑ d, q r d * k c d) := by
  refine ext2 fun i j => ?_
  pointwise [botV, kqV, bV]
  simp only [L_apply, ← EReal.coe_mul, coe_sum]
theorem xV_L (kq : FVec Ideal S512x256 .f32) (a d : Fin 256 → Fin 256 → ℝ) (h : topV kq = L a) : xV kq (L d) = L (fun r c => 0 - if r.val / 64 = c.val / 64 ∧ c.val < r.val then a r c * d r c else 0) := by
  refine ext2 fun i j => ?_
  rw [xV, zV_L, h, mulf_L]
  pointwise
  rw [sel_iff _ _ (strict_iff i j)]
  simp only [L_apply]
  split_ifs
  · exact (EReal.coe_sub _ _).symm
  · exact (EReal.coe_sub _ _).symm
theorem intraV_L (kq : FVec Ideal S512x256 .f32) (a d : Fin 256 → Fin 256 → ℝ) (h : botV kq = L a) : intraV kq (L d) = L (fun r c => if r.val / 64 = c.val / 64 ∧ c.val ≤ r.val then a r c * d r c else 0) := by
  refine ext2 fun i j => ?_
  rw [intraV, zV_L, h, mulf_L]
  pointwise
  rw [sel_iff _ _ (causal_iff i j)]
  simp only [L_apply]
  split_ifs <;> rfl
theorem sol_left (p : Fin 256 → Fin 256 → ℝ) (v k : Fin 256 → Fin 128 → ℝ) :
    (extractStridedSlice S256x128 ![0, 0] (solV (L p) (L v) (L k)) slices_S256x256_o0_0_S256x128 : FVec Ideal S256x128 .f32) = L (fun r j => ∑ c, p r c * v c j) := by
  refine ext2 fun i j => ?_
  pointwise [solV, mmV, bV]
  simp only [j.isLt, dif_pos, L_apply, ← EReal.coe_mul, coe_sum]
theorem sol_right (p : Fin 256 → Fin 256 → ℝ) (v k : Fin 256 → Fin 128 → ℝ) :
    (extractStridedSlice S256x128 ![0, 128] (solV (L p) (L v) (L k)) slices_S256x256_o0_128_S256x128 : FVec Ideal S256x128 .f32) = L (fun r j => ∑ c, p r c * k c j) := by
  refine ext2 fun i j => ?_
  pointwise [solV, mmV, bV]
  simp only [L_apply, ← EReal.coe_mul, coe_sum]

/-- Four heads' states side by side. -/
def sf (s : Fin 4 → Delta.State) : Fin 128 → Fin 512 → ℝ := fun a l => s ⟨l.val / 128, by omega⟩ a ⟨l.val % 128, by omega⟩

theorem sf_at (s : Fin 4 → Delta.State) (x : Fin 128) (i : Fin 256) (j : Fin 128) (n : ℕ) (hn : n < 512) (h : n / 128 = i.val / 64) (h' : n % 128 = j.val) :
    L (φ := .bf16) (sf s) (ix2 x ⟨n, hn⟩) = ((s (Delta.hd i) x j : ℝ) : EReal) := by
  rw [L_apply]
  exact congrArg Real.toEReal (congrArg₂ (fun a b => s a x b) (Fin.ext h) (Fin.ext h'))
theorem wqV_L (w q : Fin 256 → Fin 128 → ℝ) (s : Fin 128 → Fin 512 → ℝ) : wqV (L w) (L q) (L s)
    = L (fun r l => ∑ a, (if h : r.val < 256 then w ⟨r.val, h⟩ a else q ⟨r.val - 256, by omega⟩ a) * s a l) := by
  refine extL fun i j => ?_
  pointwise [wqV, bV]
  refine Eq.trans ?_ (coe_sum _)
  refine Finset.sum_congr rfl fun a _ => ?_
  simp only [L_apply]
  split_ifs <;> exact (EReal.coe_mul _ _).symm
theorem ownT_L (w q : Fin 256 → Fin 128 → ℝ) (s : Fin 4 → Delta.State) : ownT (wqV (L w) (L q) (L (sf s))) = L (fun r j => ∑ a, w r a * s (Delta.hd r) a j) := by
  rw [wqV_L]
  refine extL fun i j => ?_
  pointwise [ownT]
  have key : ∀ (n l : ℕ) (hn : n < 512) (hl : l < 512), n = 0 + i.val → l / 128 = i.val / 64 → l % 128 = j.val →
      L (φ := .f32) (fun (r : Fin 512) (l : Fin 512) => ∑ a, (if h : r.val < 256 then w ⟨r.val, h⟩ a else q ⟨r.val - 256, by omega⟩ a) * sf s a l) (ix2 ⟨n, hn⟩ ⟨l, hl⟩) = ((∑ a, w i a * s (Delta.hd i) a j : ℝ) : EReal) := by
    intro n l hn hl e1 e2 e3
    rw [L_apply]
    refine congrArg Real.toEReal (Finset.sum_congr rfl fun a _ => ?_)
    refine congrArg₂ (· * ·) ?_ (congrArg₂ (fun x y => s x a y) (Fin.ext e2) (Fin.ext e3))
    refine (dif_pos (show n < 256 by omega)).trans ?_
    exact congrArg (fun y => w y a) (Fin.ext (by dsimp only; omega))
  split_ifs <;> exact key _ _ _ _ (by omega) (by omega) (by omega)
theorem ownB_L (w q : Fin 256 → Fin 128 → ℝ) (s : Fin 4 → Delta.State) : ownB (wqV (L w) (L q) (L (sf s))) = L (fun r j => ∑ a, q r a * s (Delta.hd r) a j) := by
  rw [wqV_L]
  refine extL fun i j => ?_
  pointwise [ownB]
  have key : ∀ (n l : ℕ) (hn : n < 512) (hl : l < 512), n = 256 + i.val → l / 128 = i.val / 64 → l % 128 = j.val →
      L (φ := .f32) (fun (r : Fin 512) (l : Fin 512) => ∑ a, (if h : r.val < 256 then w ⟨r.val, h⟩ a else q ⟨r.val - 256, by omega⟩ a) * sf s a l) (ix2 ⟨n, hn⟩ ⟨l, hl⟩) = ((∑ a, q i a * s (Delta.hd i) a j : ℝ) : EReal) := by
    intro n l hn hl e1 e2 e3
    rw [L_apply]
    refine congrArg Real.toEReal (Finset.sum_congr rfl fun a _ => ?_)
    refine congrArg₂ (· * ·) ?_ (congrArg₂ (fun x y => s x a y) (Fin.ext e2) (Fin.ext e3))
    refine (dif_neg (show ¬ n < 256 by omega)).trans ?_
    exact congrArg (fun y => q y a) (Fin.ext (by dsimp only; omega))
  split_ifs <;> exact key _ _ _ _ (by omega) (by omega) (by omega)
theorem blkV_L (u : Fin 256 → Fin 128 → ℝ) (j : Fin 4) : blkV (L u) (BitVec.ofNat 32 j.val) = L (fun r d => if r.val / 64 = j.val then u r d else 0) := by
  refine ext2 fun i d => ?_
  pointwise [blkV]
  rw [sel_iff _ _ (head_iff i j)]
  simp only [L_apply]
  split_ifs <;> simp
theorem stateV_L (k u : Fin 256 → Fin 128 → ℝ) (gc gl : Fin 256 → ℝ) (sd : Fin 512 → ℝ) (s : Fin 128 → Fin 512 → ℝ) :
    stateV (L k) (L u) (L (fun r _ => gc r)) (L (fun r _ => gl r)) (L (fun _ l => sd l)) (L s)
      = L (fun a l => s a l * sd l + ∑ r : Fin 256, k r a * Real.exp (gl r - gc r) * (if r.val / 64 = l.val / 128 then u r ⟨l.val % 128, by omega⟩ else 0)) := by
  rw [stateV, subf_L, exp_L, laneV_L, mulf_L, show (0#32) = BitVec.ofNat 32 (0 : Fin 4).val from rfl, show (1#32) = BitVec.ofNat 32 (1 : Fin 4).val from rfl, show (2#32) = BitVec.ofNat 32 (2 : Fin 4).val from rfl, show (3#32) = BitVec.ofNat 32 (3 : Fin 4).val from rfl, blkV_L u 0, blkV_L u 1, blkV_L u 2, blkV_L u 3]
  refine extL fun i j => ?_
  pointwise [bV]
  refine Eq.trans ?_ (EReal.coe_add _ _).symm
  rw [EReal.coe_mul, ← coe_sum]
  refine congrArg₂ (· + ·) rfl (Finset.sum_congr rfl fun x _ => ?_)
  rw [EReal.coe_mul, L_apply]
  refine congrArg₂ (· * ·) rfl ?_
  have hx := x.isLt
  simp only [L_apply]
  by_cases h1 : j.val < 128
  · rw [dif_pos h1]
    exact congrArg Real.toEReal (if_congr (by omega) (congrArg (u x) (Fin.ext (by dsimp only; omega))) rfl)
  rw [dif_neg h1]
  by_cases h2 : j.val - 128 < 128
  · rw [dif_pos h2]
    exact congrArg Real.toEReal (if_congr (by omega) (congrArg (u x) (Fin.ext (by dsimp only; omega))) rfl)
  rw [dif_neg h2]
  by_cases h3 : j.val - 128 - 128 < 128
  · rw [dif_pos h3]
    exact congrArg Real.toEReal (if_congr (by omega) (congrArg (u x) (Fin.ext (by dsimp only; omega))) rfl)
  rw [dif_neg h3]
  exact congrArg Real.toEReal (if_congr (by omega) (congrArg (u x) (Fin.ext (by dsimp only; omega))) rfl)
theorem oV_L (wq : FVec Ideal S512x512 .f32) (o : Fin 256 → Fin 128 → ℝ) (h : ownB wq = L o) (m : Fin 256 → Fin 256 → ℝ) (u : Fin 256 → Fin 128 → ℝ) :
    oV wq (L m) (L u) = L (fun r j => o r j + ∑ c, m r c * u c j) := by
  rw [oV, h]
  refine ext2 fun i j => ?_
  pointwise [bV]
  simp only [L_apply, ← EReal.coe_mul, coe_sum, ← EReal.coe_add]

theorem gcV_L (g : Fin 64 → Fin 128 → ℝ) : gcV (L g) = L (fun i d => ∑ j : Fin 64, if j.val ≤ i.val then g j d else 0) := by
  refine extL fun i d => ?_
  pointwise [gcV]
  have hm : ∀ x : Fin 64, (FloatOps.sitofp FTy.f32 (BitVec.setWidth 32 (IntOp.cmpi CmpIPredicate.sge (BitVec.ofNat 32 i.val) (BitVec.ofNat 32 x.val))) : Ideal .f32)
      = ((if x.val ≤ i.val then (1 : ℝ) else 0 : ℝ) : EReal) := fun x =>
    b01 _ (x.val ≤ i.val) (cmpi_sge_ofNat_eq_one_iff (by omega) (by omega))
  refine Eq.trans ?_ (coe_sum (fun k : Fin 64 => if k.val ≤ i.val then g k d else 0))
  simp only [L_apply, ← EReal.coe_sub, hm, sub_self]
  simp only [EReal.coe_zero, mul_zero, Finset.sum_const_zero, add_zero]
  refine Finset.sum_congr (M := EReal) rfl fun x _ => ?_
  rw [← EReal.coe_mul, ite_mul, one_mul, zero_mul]

/-! ## One group over one chunk -/

/-- The group's arrays hold the stacked tokens of four heads. -/
structure Grp.Is (G : Grp) (T : Fin 4 → Delta.Toks) : Prop where
  k : G.k = L (Delta.K T)
  q : G.q = L (Delta.Q T)
  v : G.v = L (Delta.V T)
  b : G.b = L (fun r _ => Delta.B T r)
  gcc : G.gcc = L (fun r _ => Delta.Gc T r)
  gcr : G.gcr = L (fun _ c => Delta.Gc T c)
  glc : G.glc = L (fun r _ => Delta.Gl T (Delta.hd r))
  sd : G.sd = L (fun _ l => Real.exp (Delta.Gl T ⟨l.val / 128, by omega⟩))

namespace Grp.Is
variable {G : Grp} {T : Fin 4 → Delta.Toks} (h : G.Is T) (s : Fin 4 → Delta.State)
include h

theorem kb_L : G.kb = L (fun r a => Delta.K T r a * Delta.B T r) := by
  rw [Grp.kb, h.k, h.b, laneV_L, mulf_L]
theorem eg_L : G.eg = L (fun r _ => Real.exp (Delta.Gc T r)) := by
  rw [Grp.eg, h.gcc, exp_L, laneV_L]
theorem dec_L : G.dec = L (Delta.dec T) := by
  rw [Grp.dec, h.gcc, h.gcr, decayV_L]; rfl
theorem kq_top : topV G.kq = L (fun r c => ∑ a, Delta.K T r a * Delta.B T r * Delta.K T c a) := by
  rw [Grp.kq, h.kb_L, h.k, h.q, kqV_top]
theorem kq_bot : botV G.kq = L (fun r c => ∑ a, Delta.Q T r a * Delta.K T c a) := by
  rw [Grp.kq, h.kb_L, h.k, h.q, kqV_bot]
theorem inv_L : G.inv = L (fun r c => Inverse.inv (Delta.X T) r c) := by
  have e : xV G.kq G.dec = LM (Delta.X T) := by
    rw [h.dec_L, xV_L _ _ _ h.kq_top]; rfl
  rw [Grp.inv, e, invV_L]; rfl
theorem intra_L : intraV G.kq G.dec = L (fun r c => Delta.intra T r c) := by
  rw [h.dec_L, intraV_L _ _ _ h.kq_bot]; rfl
theorem wq_L : G.wq (L (sf s)) = wqV (L (fun r a => ∑ c, Inverse.inv (Delta.X T) r c * (Delta.K T c a * Delta.B T c * Real.exp (Delta.Gc T c))))
    (L (fun r a => Delta.Q T r a * Real.exp (Delta.Gc T r))) (L (sf s)) := by
  rw [Grp.wq, Grp.sol, h.inv_L, h.v, h.b, laneV_L, mulf_L, h.kb_L, h.eg_L, mulf_L, sol_right, h.q, mulf_L]
theorem vnew_L : G.vnew (L (sf s)) = L (Delta.U T s) := by
  rw [Grp.vnew, h.wq_L, vnewV, ownT_L, Grp.sol, h.inv_L, h.v, h.b, laneV_L, mulf_L, h.kb_L, h.eg_L, mulf_L, sol_left, subf_L]
  congr 1
  funext r j
  exact Delta.solve T s r j
/-- The group's next state is the heads' states after the chunk's 64 tokens. -/
theorem next_L : G.next (L (sf s)) = L (sf (fun n => (T n).st (s n) 64)) := by
  rw [Grp.next, h.vnew_L, h.k, h.gcc, h.glc, h.sd, stateV_L]
  congr 1
  funext a l
  refine Eq.trans ?_ (Delta.next_eq T s ⟨l.val / 128, by omega⟩ a ⟨l.val % 128, by omega⟩)
  refine congrArg₂ (· + ·) rfl (Finset.sum_congr rfl fun r _ => congrArg₂ (· * ·) rfl (if_congr ?_ rfl rfl))
  exact ⟨fun e => Fin.ext e, fun e => congrArg Fin.val e⟩
/-- The group's outputs are the recurrence's. -/
theorem out_L : G.out (L (sf s)) = L (fun r j => (T (Delta.hd r)).out (s (Delta.hd r)) (Delta.tk r) j) := by
  rw [Grp.out, h.intra_L, h.vnew_L, oV_L _ _ (by rw [h.wq_L, ownB_L])]
  congr 1
  funext r j
  exact Delta.out_eq T s r j
end Grp.Is

/-! ## The inputs of one point -/

/-- Queries, keys, values and gates, by row and lane. -/
structure Rows where
  q : ℕ → ℕ → ℝ
  k : ℕ → ℕ → ℝ
  v : ℕ → ℕ → ℝ
  bg : ℕ → ℕ → ℝ

/-- A head's tokens from row `R` on. -/
def Rows.tok (D : Rows) (R n : ℕ) : Delta.Toks where
  k t a := D.k (R + t) (128 * n + a.val)
  q t a := D.q (R + t) (128 * n + a.val)
  v t a := D.v (R + t) (128 * n + a.val)
  b t := D.bg (R + t) n
  g t := D.bg (R + t) (8 + n)

theorem Rows.tok_shift (D : Rows) (R n m : ℕ) : (D.tok R n).shift m = D.tok (R + m) n := by
  simp only [Rows.tok, Delta.Toks.shift, Nat.add_assoc]

theorem tile_L (F : ℕ → ℕ → ℝ) (R r l : ℕ) (h : ∀ a, (![r, l] : Fin 2 → ℕ) a + S64x128.size a ≤ S128x1024.size a) : tile (L (φ := .f32) (fun i j => F (R + i.val) j.val)) r l h = L (fun i j => F (R + r + i.val) (l + j.val)) := by
  refine extL fun i j => ?_
  show ((F _ _ : ℝ) : EReal) = _
  refine congrArg Real.toEReal (congrArg₂ F ?_ ?_)
  · show R + (r + 1 * i.val) = _; omega
  · show l + 1 * j.val = _; omega
theorem bgT_L (F : ℕ → ℕ → ℝ) (R r : ℕ) (h : ∀ a, (![r, 0] : Fin 2 → ℕ) a + S64x128.size a ≤ S128x128.size a) : bgT (L (φ := .f32) (fun i j => F (R + i.val) j.val)) r h = L (fun i j => F (R + r + i.val) j.val) := by
  refine extL fun i j => ?_
  show ((F _ _ : ℝ) : EReal) = _
  refine congrArg Real.toEReal (congrArg₂ F ?_ ?_)
  · show R + (r + 1 * i.val) = _; omega
  · show 0 + 1 * j.val = _; omega
theorem stack4_L (F : ℕ → ℕ → ℝ) (R l0 l1 l2 l3 : ℕ) (h1 : l1 = l0 + 128) (h2 : l2 = l0 + 256) (h3 : l3 = l0 + 384) :
    stack4 (L (fun i j => F (R + i.val) (l0 + j.val))) (L (fun i j => F (R + i.val) (l1 + j.val))) (L (fun i j => F (R + i.val) (l2 + j.val))) (L (fun i j => F (R + i.val) (l3 + j.val)))
      = L (fun r j => F (R + r.val % 64) (l0 + 128 * (r.val / 64) + j.val)) := by
  subst h1 h2 h3
  refine extL fun i j => ?_
  pointwise [stack4]
  simp only [L_apply]
  split_ifs <;> refine congrArg Real.toEReal (congrArg₂ F ?_ ?_) <;> omega

theorem sum_le (n : ℕ) (hn : n < 64) (f : ℕ → ℝ) : ∑ j : Fin 64, (if j.val ≤ n then f j.val else 0) = ∑ j ∈ Finset.range (n + 1), f j := by
  rw [Fin.sum_univ_eq_sum_range (fun j => if j ≤ n then f j else 0) 64, ← Finset.sum_filter]
  refine Finset.sum_congr ?_ fun _ _ => rfl
  ext j
  simp only [Finset.mem_filter, Finset.mem_range]
  omega

theorem bcol0_L (A : Fin 64 → Fin 128 → ℝ) : bcol0 (L A) = L (fun r _ => A ⟨r.val % 64, by omega⟩ ⟨0 + r.val / 64, by omega⟩) := by
  refine extL fun i j => ?_
  pointwise [bcol0]
  simp only [L_apply]
  split_ifs <;> exact congrArg Real.toEReal (congrArg₂ A (Fin.ext (by first | rfl | (dsimp only; omega) | (simp; omega))) (Fin.ext (by first | rfl | (dsimp only; omega) | (simp; omega))))
theorem gcc0_L (A : Fin 64 → Fin 128 → ℝ) : gcc0 (L A) = L (fun r _ => A ⟨r.val % 64, by omega⟩ ⟨8 + r.val / 64, by omega⟩) := by
  refine extL fun i j => ?_
  pointwise [gcc0]
  simp only [L_apply]
  split_ifs <;> exact congrArg Real.toEReal (congrArg₂ A (Fin.ext (by first | rfl | (dsimp only; omega) | (simp; omega))) (Fin.ext (by first | rfl | (dsimp only; omega) | (simp; omega))))
theorem gcr0_L (A : Fin 64 → Fin 128 → ℝ) : gcr0 (L A) = L (fun _ r => A ⟨r.val % 64, by omega⟩ ⟨8 + r.val / 64, by omega⟩) := by
  refine extL fun i j => ?_
  pointwise [gcr0]
  simp only [L_apply]
  split_ifs <;> exact congrArg Real.toEReal (congrArg₂ A (Fin.ext (by first | rfl | (dsimp only; omega) | (simp; omega))) (Fin.ext (by first | rfl | (dsimp only; omega) | (simp; omega))))
theorem glc0_L (A : Fin 64 → Fin 128 → ℝ) : glc0 (L A) = L (fun r _ => A 63 ⟨8 + r.val / 64, by omega⟩) := by
  refine extL fun i j => ?_
  pointwise [glc0]
  simp only [L_apply]
  split_ifs <;> exact congrArg Real.toEReal (congrArg₂ A (Fin.ext (by first | rfl | (dsimp only; omega) | (simp; omega))) (Fin.ext (by first | rfl | (dsimp only; omega) | (simp; omega))))
theorem sdec0_L (A : Fin 64 → Fin 128 → ℝ) : sdec0 (L A) = L (fun _ l => Real.exp (A 63 ⟨8 + l.val / 128, by omega⟩)) := by
  refine extL fun i j => ?_
  pointwise [sdec0]
  simp only [L_apply]
  split_ifs <;> exact congrArg (fun x : ℝ => ((Real.exp x : ℝ) : EReal)) (congrArg₂ A (Fin.ext (by first | rfl | (dsimp only; omega) | (simp; omega))) (Fin.ext (by first | rfl | (dsimp only; omega) | (simp; omega))))

theorem bcol1_L (A : Fin 64 → Fin 128 → ℝ) : bcol1 (L A) = L (fun r _ => A ⟨r.val % 64, by omega⟩ ⟨4 + r.val / 64, by omega⟩) := by
  refine extL fun i j => ?_
  pointwise [bcol1]
  simp only [L_apply]
  split_ifs <;> exact congrArg Real.toEReal (congrArg₂ A (Fin.ext (by first | rfl | (dsimp only; omega) | (simp; omega))) (Fin.ext (by first | rfl | (dsimp only; omega) | (simp; omega))))
theorem gcc1_L (A : Fin 64 → Fin 128 → ℝ) : gcc1 (L A) = L (fun r _ => A ⟨r.val % 64, by omega⟩ ⟨12 + r.val / 64, by omega⟩) := by
  refine extL fun i j => ?_
  pointwise [gcc1]
  simp only [L_apply]
  split_ifs <;> exact congrArg Real.toEReal (congrArg₂ A (Fin.ext (by first | rfl | (dsimp only; omega) | (simp; omega))) (Fin.ext (by first | rfl | (dsimp only; omega) | (simp; omega))))
theorem gcr1_L (A : Fin 64 → Fin 128 → ℝ) : gcr1 (L A) = L (fun _ r => A ⟨r.val % 64, by omega⟩ ⟨12 + r.val / 64, by omega⟩) := by
  refine extL fun i j => ?_
  pointwise [gcr1]
  simp only [L_apply]
  split_ifs <;> exact congrArg Real.toEReal (congrArg₂ A (Fin.ext (by first | rfl | (dsimp only; omega) | (simp; omega))) (Fin.ext (by first | rfl | (dsimp only; omega) | (simp; omega))))
theorem glc1_L (A : Fin 64 → Fin 128 → ℝ) : glc1 (L A) = L (fun r _ => A 63 ⟨12 + r.val / 64, by omega⟩) := by
  refine extL fun i j => ?_
  pointwise [glc1]
  simp only [L_apply]
  split_ifs <;> exact congrArg Real.toEReal (congrArg₂ A (Fin.ext (by first | rfl | (dsimp only; omega) | (simp; omega))) (Fin.ext (by first | rfl | (dsimp only; omega) | (simp; omega))))
theorem sdec1_L (A : Fin 64 → Fin 128 → ℝ) : sdec1 (L A) = L (fun _ l => Real.exp (A 63 ⟨12 + l.val / 128, by omega⟩)) := by
  refine extL fun i j => ?_
  pointwise [sdec1]
  simp only [L_apply]
  split_ifs <;> exact congrArg (fun x : ℝ => ((Real.exp x : ℝ) : EReal)) (congrArg₂ A (Fin.ext (by first | rfl | (dsimp only; omega) | (simp; omega))) (Fin.ext (by first | rfl | (dsimp only; omega) | (simp; omega))))

theorem grp00_is (D : Rows) (R : ℕ) : (grp00 (L (φ := .f32) (fun i j => D.q (R + i.val) j.val)) (L (φ := .f32) (fun i j => D.k (R + i.val) j.val)) (L (φ := .f32) (fun i j => D.v (R + i.val) j.val)) (L (φ := .f32) (fun i j => D.bg (R + i.val) j.val))).Is
    (fun n => D.tok (R + 0) (0 + n.val)) := by
  have e : ∀ r : Fin 256, ∀ j : Fin 128, 0 + 128 * (r.val / 64) + j.val = 128 * (0 + (Delta.hd r).val) + j.val := fun r j => by show _ = 128 * (0 + r.val / 64) + j.val; omega
  constructor
  · simp only [grp00, tile_L]
    rw [stack4_L _ _ _ _ _ _ rfl rfl rfl]
    exact congrArg L (funext fun r => funext fun j => congrArg (D.k _) (e r j))
  · simp only [grp00, tile_L]
    rw [stack4_L _ _ _ _ _ _ rfl rfl rfl]
    exact congrArg L (funext fun r => funext fun j => congrArg (D.q _) (e r j))
  · simp only [grp00, tile_L]
    rw [stack4_L _ _ _ _ _ _ rfl rfl rfl]
    exact congrArg L (funext fun r => funext fun j => congrArg (D.v _) (e r j))
  · simp only [grp00, bgT_L]
    rw [bcol0_L]; rfl
  · simp only [grp00, bgT_L, gcV_L]
    rw [gcc0_L]
    exact congrArg L (funext fun r => funext fun _ => (sum_le (r.val % 64) (by omega) (fun j => D.bg (R + 0 + j) (8 + r.val / 64))).trans (Finset.sum_congr rfl fun j _ => congrArg (D.bg _) (by show _ = 8 + (0 + r.val / 64); omega)))
  · simp only [grp00, bgT_L, gcV_L]
    rw [gcr0_L]
    exact congrArg L (funext fun _ => funext fun r => (sum_le (r.val % 64) (by omega) (fun j => D.bg (R + 0 + j) (8 + r.val / 64))).trans (Finset.sum_congr rfl fun j _ => congrArg (D.bg _) (by show _ = 8 + (0 + r.val / 64); omega)))
  · simp only [grp00, bgT_L, gcV_L]
    rw [glc0_L]
    exact congrArg L (funext fun r => funext fun _ => (sum_le 63 (by omega) (fun j => D.bg (R + 0 + j) (8 + r.val / 64))).trans (Finset.sum_congr rfl fun j _ => congrArg (D.bg _) (by show _ = 8 + (0 + r.val / 64); omega)))
  · simp only [grp00, bgT_L, gcV_L]
    rw [sdec0_L]
    exact congrArg L (funext fun _ => funext fun l => congrArg Real.exp ((sum_le 63 (by omega) (fun j => D.bg (R + 0 + j) (8 + l.val / 128))).trans (Finset.sum_congr rfl fun j _ => congrArg (D.bg _) (by show _ = 8 + (0 + l.val / 128); omega))))

theorem grp01_is (D : Rows) (R : ℕ) : (grp01 (L (φ := .f32) (fun i j => D.q (R + i.val) j.val)) (L (φ := .f32) (fun i j => D.k (R + i.val) j.val)) (L (φ := .f32) (fun i j => D.v (R + i.val) j.val)) (L (φ := .f32) (fun i j => D.bg (R + i.val) j.val))).Is
    (fun n => D.tok (R + 0) (4 + n.val)) := by
  have e : ∀ r : Fin 256, ∀ j : Fin 128, 512 + 128 * (r.val / 64) + j.val = 128 * (4 + (Delta.hd r).val) + j.val := fun r j => by show _ = 128 * (4 + r.val / 64) + j.val; omega
  constructor
  · simp only [grp01, tile_L]
    rw [stack4_L _ _ _ _ _ _ rfl rfl rfl]
    exact congrArg L (funext fun r => funext fun j => congrArg (D.k _) (e r j))
  · simp only [grp01, tile_L]
    rw [stack4_L _ _ _ _ _ _ rfl rfl rfl]
    exact congrArg L (funext fun r => funext fun j => congrArg (D.q _) (e r j))
  · simp only [grp01, tile_L]
    rw [stack4_L _ _ _ _ _ _ rfl rfl rfl]
    exact congrArg L (funext fun r => funext fun j => congrArg (D.v _) (e r j))
  · simp only [grp01, bgT_L]
    rw [bcol1_L]; rfl
  · simp only [grp01, bgT_L, gcV_L]
    rw [gcc1_L]
    exact congrArg L (funext fun r => funext fun _ => (sum_le (r.val % 64) (by omega) (fun j => D.bg (R + 0 + j) (12 + r.val / 64))).trans (Finset.sum_congr rfl fun j _ => congrArg (D.bg _) (by show _ = 8 + (4 + r.val / 64); omega)))
  · simp only [grp01, bgT_L, gcV_L]
    rw [gcr1_L]
    exact congrArg L (funext fun _ => funext fun r => (sum_le (r.val % 64) (by omega) (fun j => D.bg (R + 0 + j) (12 + r.val / 64))).trans (Finset.sum_congr rfl fun j _ => congrArg (D.bg _) (by show _ = 8 + (4 + r.val / 64); omega)))
  · simp only [grp01, bgT_L, gcV_L]
    rw [glc1_L]
    exact congrArg L (funext fun r => funext fun _ => (sum_le 63 (by omega) (fun j => D.bg (R + 0 + j) (12 + r.val / 64))).trans (Finset.sum_congr rfl fun j _ => congrArg (D.bg _) (by show _ = 8 + (4 + r.val / 64); omega)))
  · simp only [grp01, bgT_L, gcV_L]
    rw [sdec1_L]
    exact congrArg L (funext fun _ => funext fun l => congrArg Real.exp ((sum_le 63 (by omega) (fun j => D.bg (R + 0 + j) (12 + l.val / 128))).trans (Finset.sum_congr rfl fun j _ => congrArg (D.bg _) (by show _ = 8 + (4 + l.val / 128); omega))))

theorem grp10_is (D : Rows) (R : ℕ) : (grp10 (L (φ := .f32) (fun i j => D.q (R + i.val) j.val)) (L (φ := .f32) (fun i j => D.k (R + i.val) j.val)) (L (φ := .f32) (fun i j => D.v (R + i.val) j.val)) (L (φ := .f32) (fun i j => D.bg (R + i.val) j.val))).Is
    (fun n => D.tok (R + 64) (0 + n.val)) := by
  have e : ∀ r : Fin 256, ∀ j : Fin 128, 0 + 128 * (r.val / 64) + j.val = 128 * (0 + (Delta.hd r).val) + j.val := fun r j => by show _ = 128 * (0 + r.val / 64) + j.val; omega
  constructor
  · simp only [grp10, tile_L]
    rw [stack4_L _ _ _ _ _ _ rfl rfl rfl]
    exact congrArg L (funext fun r => funext fun j => congrArg (D.k _) (e r j))
  · simp only [grp10, tile_L]
    rw [stack4_L _ _ _ _ _ _ rfl rfl rfl]
    exact congrArg L (funext fun r => funext fun j => congrArg (D.q _) (e r j))
  · simp only [grp10, tile_L]
    rw [stack4_L _ _ _ _ _ _ rfl rfl rfl]
    exact congrArg L (funext fun r => funext fun j => congrArg (D.v _) (e r j))
  · simp only [grp10, bgT_L]
    rw [bcol0_L]; rfl
  · simp only [grp10, bgT_L, gcV_L]
    rw [gcc0_L]
    exact congrArg L (funext fun r => funext fun _ => (sum_le (r.val % 64) (by omega) (fun j => D.bg (R + 64 + j) (8 + r.val / 64))).trans (Finset.sum_congr rfl fun j _ => congrArg (D.bg _) (by show _ = 8 + (0 + r.val / 64); omega)))
  · simp only [grp10, bgT_L, gcV_L]
    rw [gcr0_L]
    exact congrArg L (funext fun _ => funext fun r => (sum_le (r.val % 64) (by omega) (fun j => D.bg (R + 64 + j) (8 + r.val / 64))).trans (Finset.sum_congr rfl fun j _ => congrArg (D.bg _) (by show _ = 8 + (0 + r.val / 64); omega)))
  · simp only [grp10, bgT_L, gcV_L]
    rw [glc0_L]
    exact congrArg L (funext fun r => funext fun _ => (sum_le 63 (by omega) (fun j => D.bg (R + 64 + j) (8 + r.val / 64))).trans (Finset.sum_congr rfl fun j _ => congrArg (D.bg _) (by show _ = 8 + (0 + r.val / 64); omega)))
  · simp only [grp10, bgT_L, gcV_L]
    rw [sdec0_L]
    exact congrArg L (funext fun _ => funext fun l => congrArg Real.exp ((sum_le 63 (by omega) (fun j => D.bg (R + 64 + j) (8 + l.val / 128))).trans (Finset.sum_congr rfl fun j _ => congrArg (D.bg _) (by show _ = 8 + (0 + l.val / 128); omega))))

theorem grp11_is (D : Rows) (R : ℕ) : (grp11 (L (φ := .f32) (fun i j => D.q (R + i.val) j.val)) (L (φ := .f32) (fun i j => D.k (R + i.val) j.val)) (L (φ := .f32) (fun i j => D.v (R + i.val) j.val)) (L (φ := .f32) (fun i j => D.bg (R + i.val) j.val))).Is
    (fun n => D.tok (R + 64) (4 + n.val)) := by
  have e : ∀ r : Fin 256, ∀ j : Fin 128, 512 + 128 * (r.val / 64) + j.val = 128 * (4 + (Delta.hd r).val) + j.val := fun r j => by show _ = 128 * (4 + r.val / 64) + j.val; omega
  constructor
  · simp only [grp11, tile_L]
    rw [stack4_L _ _ _ _ _ _ rfl rfl rfl]
    exact congrArg L (funext fun r => funext fun j => congrArg (D.k _) (e r j))
  · simp only [grp11, tile_L]
    rw [stack4_L _ _ _ _ _ _ rfl rfl rfl]
    exact congrArg L (funext fun r => funext fun j => congrArg (D.q _) (e r j))
  · simp only [grp11, tile_L]
    rw [stack4_L _ _ _ _ _ _ rfl rfl rfl]
    exact congrArg L (funext fun r => funext fun j => congrArg (D.v _) (e r j))
  · simp only [grp11, bgT_L]
    rw [bcol1_L]; rfl
  · simp only [grp11, bgT_L, gcV_L]
    rw [gcc1_L]
    exact congrArg L (funext fun r => funext fun _ => (sum_le (r.val % 64) (by omega) (fun j => D.bg (R + 64 + j) (12 + r.val / 64))).trans (Finset.sum_congr rfl fun j _ => congrArg (D.bg _) (by show _ = 8 + (4 + r.val / 64); omega)))
  · simp only [grp11, bgT_L, gcV_L]
    rw [gcr1_L]
    exact congrArg L (funext fun _ => funext fun r => (sum_le (r.val % 64) (by omega) (fun j => D.bg (R + 64 + j) (12 + r.val / 64))).trans (Finset.sum_congr rfl fun j _ => congrArg (D.bg _) (by show _ = 8 + (4 + r.val / 64); omega)))
  · simp only [grp11, bgT_L, gcV_L]
    rw [glc1_L]
    exact congrArg L (funext fun r => funext fun _ => (sum_le 63 (by omega) (fun j => D.bg (R + 64 + j) (12 + r.val / 64))).trans (Finset.sum_congr rfl fun j _ => congrArg (D.bg _) (by show _ = 8 + (4 + r.val / 64); omega)))
  · simp only [grp11, bgT_L, gcV_L]
    rw [sdec1_L]
    exact congrArg L (funext fun _ => funext fun l => congrArg Real.exp ((sum_le 63 (by omega) (fun j => D.bg (R + 64 + j) (12 + l.val / 128))).trans (Finset.sum_congr rfl fun j _ => congrArg (D.bg _) (by show _ = 8 + (4 + l.val / 128); omega))))
end Cert.KernelIdeal.Body
-- ==== Proof.Point.lean ====
module

public import proofs.«01_k».proof.Proof.Lift

@[expose] public section

set_option maxRecDepth 16384

noncomputable section

open Idealize.ShloMosaic Idealize.ShloMosaic.TcCoe Idealize.SL.Sem

namespace Cert.KernelIdeal.Body
open Cert.KernelIdeal Cert.KernelIdeal.Gen

/-! ## One grid point at real arrays -/

/-- Eight heads' states side by side. -/
def sF (s : ℕ → Delta.State) : Fin 128 → Fin 1024 → ℝ := fun a l => s (l.val / 128) a ⟨l.val % 128, by omega⟩

theorem half0_L (s : ℕ → Delta.State) (h : ∀ a, (![0, 0] : Fin 2 → ℕ) a + S128x512.size a ≤ S128x1024.size a) : half (L (φ := .f32) (sF s)) 0 h = L (sf (fun n => s (0 + n.val))) := by
  refine extL fun i j => ?_
  show ((sF s _ _ : ℝ) : EReal) = _
  unfold sF sf
  refine congrArg Real.toEReal ?_
  have e1 : (0 + 1 * j.val) / 128 = 0 + j.val / 128 := by omega
  have e2 : (0 + 1 * j.val) % 128 = j.val % 128 := by omega
  have e0 : 0 + 1 * i.val = i.val := by omega
  show s ((0 + 1 * j.val) / 128) ⟨0 + 1 * i.val, _⟩ ⟨(0 + 1 * j.val) % 128, _⟩ = _
  simp only [e0, e1, e2]
theorem half1_L (s : ℕ → Delta.State) (h : ∀ a, (![0, 512] : Fin 2 → ℕ) a + S128x512.size a ≤ S128x1024.size a) : half (L (φ := .f32) (sF s)) 512 h = L (sf (fun n => s (4 + n.val))) := by
  refine extL fun i j => ?_
  show ((sF s _ _ : ℝ) : EReal) = _
  unfold sF sf
  refine congrArg Real.toEReal ?_
  have e1 : (512 + 1 * j.val) / 128 = 4 + j.val / 128 := by omega
  have e2 : (512 + 1 * j.val) % 128 = j.val % 128 := by omega
  have e0 : 0 + 1 * i.val = i.val := by omega
  show s ((512 + 1 * j.val) / 128) ⟨0 + 1 * i.val, _⟩ ⟨(512 + 1 * j.val) % 128, _⟩ = _
  simp only [e0, e1, e2]
theorem join_L (s : ℕ → Delta.State) : join (L (sf (fun n => s (0 + n.val)))) (L (sf (fun n => s (4 + n.val)))) = L (φ := .f32) (sF s) := by
  refine extL fun i j => ?_
  show (if h : j.val < 512 then L (φ := .f32) (sf (fun n => s (0 + n.val))) (ix2 i ⟨j.val, h⟩) else L (φ := .f32) (sf (fun n => s (4 + n.val))) (ix2 i ⟨j.val - 512, by omega⟩)) = _
  split_ifs with h
  · refine congrArg Real.toEReal ?_
    have e : 0 + j.val / 128 = j.val / 128 := by omega
    show s (0 + j.val / 128) i ⟨j.val % 128, _⟩ = s (j.val / 128) i ⟨j.val % 128, _⟩
    rw [e]
  · refine congrArg Real.toEReal ?_
    have e : 4 + (j.val - 512) / 128 = j.val / 128 := by omega
    have e' : (j.val - 512) % 128 = j.val % 128 := by omega
    show s (4 + (j.val - 512) / 128) i ⟨(j.val - 512) % 128, _⟩ = s (j.val / 128) i ⟨j.val % 128, _⟩
    simp only [e, e']

section point
variable (D : Rows) (R : ℕ) (s : ℕ → Delta.State)

/-- Queries, keys, values and gates of the point that begins at row `R`. -/
abbrev Rows.x0 : Vec Ideal S128x1024 .f32 := L (φ := .f32) (fun (i : Fin 128) (j : Fin 1024) => D.q (R + i.val) j.val)
abbrev Rows.x1 : Vec Ideal S128x1024 .f32 := L (φ := .f32) (fun (i : Fin 128) (j : Fin 1024) => D.k (R + i.val) j.val)
abbrev Rows.x2 : Vec Ideal S128x1024 .f32 := L (φ := .f32) (fun (i : Fin 128) (j : Fin 1024) => D.v (R + i.val) j.val)
abbrev Rows.x3 : Vec Ideal S128x128 .f32 := L (φ := .f32) (fun (i : Fin 128) (j : Fin 128) => D.bg (R + i.val) j.val)

theorem next00 (h) : (grp00 (D.x0 R) (D.x1 R) (D.x2 R) (D.x3 R)).next (half (L (φ := .f32) (sF s)) 0 h) = L (sf (fun n => (D.tok R (0 + n.val)).st (s (0 + n.val)) 64)) := by
  rw [half0_L]; exact (grp00_is D R).next_L _
theorem next01 (h) : (grp01 (D.x0 R) (D.x1 R) (D.x2 R) (D.x3 R)).next (half (L (φ := .f32) (sF s)) 512 h) = L (sf (fun n => (D.tok R (4 + n.val)).st (s (4 + n.val)) 64)) := by
  rw [half1_L]; exact (grp01_is D R).next_L _
theorem out00 (h) : (grp00 (D.x0 R) (D.x1 R) (D.x2 R) (D.x3 R)).out (half (L (φ := .f32) (sF s)) 0 h) = L (fun r j => (D.tok R (0 + r.val / 64)).out (s (0 + r.val / 64)) (0 + r.val % 64) j) := by
  rw [half0_L, (grp00_is D R).out_L]
  exact congrArg L (funext fun r => funext fun j => by rw [Nat.zero_add (r.val % 64)]; rfl)
theorem out01 (h) : (grp01 (D.x0 R) (D.x1 R) (D.x2 R) (D.x3 R)).out (half (L (φ := .f32) (sF s)) 512 h) = L (fun r j => (D.tok R (4 + r.val / 64)).out (s (4 + r.val / 64)) (0 + r.val % 64) j) := by
  rw [half1_L, (grp01_is D R).out_L]
  exact congrArg L (funext fun r => funext fun j => by rw [Nat.zero_add (r.val % 64)]; rfl)
theorem out10 (h) : (grp10 (D.x0 R) (D.x1 R) (D.x2 R) (D.x3 R)).out ((grp00 (D.x0 R) (D.x1 R) (D.x2 R) (D.x3 R)).next (half (L (φ := .f32) (sF s)) 0 h)) = L (fun r j => (D.tok R (0 + r.val / 64)).out (s (0 + r.val / 64)) (64 + r.val % 64) j) := by
  rw [next00, (grp10_is D R).out_L]
  exact congrArg L (funext fun r => funext fun j => by rw [Delta.Toks.out_add, Rows.tok_shift]; rfl)
theorem out11 (h) : (grp11 (D.x0 R) (D.x1 R) (D.x2 R) (D.x3 R)).out ((grp01 (D.x0 R) (D.x1 R) (D.x2 R) (D.x3 R)).next (half (L (φ := .f32) (sF s)) 512 h)) = L (fun r j => (D.tok R (4 + r.val / 64)).out (s (4 + r.val / 64)) (64 + r.val % 64) j) := by
  rw [next01, (grp11_is D R).out_L]
  exact congrArg L (funext fun r => funext fun j => by rw [Delta.Toks.out_add, Rows.tok_shift]; rfl)
/-- A point advances every head's state by its 128 tokens. -/
theorem nextS_L : nextS (D.x0 R) (D.x1 R) (D.x2 R) (D.x3 R) (L (φ := .f32) (sF s)) = L (φ := .f32) (sF (fun n => (D.tok R n).st (s n) 128)) := by
  rw [nextS, next00, next01, (grp10_is D R).next_L, (grp11_is D R).next_L, ← join_L]
  have e : ∀ n : ℕ, (D.tok (R + 64) n).st ((D.tok R n).st (s n) 64) 64 = (D.tok R n).st (s n) 128 := fun n => by
    rw [← Rows.tok_shift]; exact (Delta.Toks.st_add _ _ 64 64).symm
  simp only [e]
end point

/-- What is stored for one value: the output normalised by its root mean square, weighted and gated. -/
def gated (o : Fin 128 → ℝ) (j : Fin 128) (w z : EReal) : EReal :=
  ((o j : ℝ) : EReal) * Ideal.rsqrt (Ideal.div (∑ x, ((o x : ℝ) : EReal) * ((o x : ℝ) : EReal)) (Ideal.ofBits FTy.f32 0x43000000#32) + Ideal.ofBits FTy.f32 0x358637BD#32) * w
    * (z * (Ideal.ofBits FTy.f32 0x3F000000#32 * Ideal.tanh (Ideal.ofBits FTy.f32 0x3F000000#32 * z) + Ideal.ofBits FTy.f32 0x3F000000#32))

theorem on_od0 (o : Fin 256 → Fin 128 → ℝ) (w : Vec Ideal S1x128 .f32) (z : FVec Ideal S64x128 .f32) (i : Fin 64) (j : Fin 128) :
    odV (extractStridedSlice S64x128 ![0, 0] (onV (L o) w) slices_S256x128_o0_0_S64x128) z (ix2 i j) = gated (o ⟨i.val, by omega⟩) j (w (ix2 0 j)) (z (ix2 i j)) := by
  pointwise [odV, onV]
  simp only [L_apply]
  rfl

theorem on_od1 (o : Fin 256 → Fin 128 → ℝ) (w : Vec Ideal S1x128 .f32) (z : FVec Ideal S64x128 .f32) (i : Fin 64) (j : Fin 128) :
    odV (extractStridedSlice S64x128 ![64, 0] (onV (L o) w) slices_S256x128_o64_0_S64x128) z (ix2 i j) = gated (o ⟨64 + i.val, by omega⟩) j (w (ix2 0 j)) (z (ix2 i j)) := by
  pointwise [odV, onV]
  simp only [L_apply]
  rfl

theorem on_od2 (o : Fin 256 → Fin 128 → ℝ) (w : Vec Ideal S1x128 .f32) (z : FVec Ideal S64x128 .f32) (i : Fin 64) (j : Fin 128) :
    odV (extractStridedSlice S64x128 ![128, 0] (onV (L o) w) slices_S256x128_o128_0_S64x128) z (ix2 i j) = gated (o ⟨128 + i.val, by omega⟩) j (w (ix2 0 j)) (z (ix2 i j)) := by
  pointwise [odV, onV]
  simp only [L_apply]
  rfl

theorem on_od3 (o : Fin 256 → Fin 128 → ℝ) (w : Vec Ideal S1x128 .f32) (z : FVec Ideal S64x128 .f32) (i : Fin 64) (j : Fin 128) :
    odV (extractStridedSlice S64x128 ![192, 0] (onV (L o) w) slices_S256x128_o192_0_S64x128) z (ix2 i j) = gated (o ⟨192 + i.val, by omega⟩) j (w (ix2 0 j)) (z (ix2 i j)) := by
  pointwise [odV, onV]
  simp only [L_apply]
  rfl

theorem tile_at (x : Vec Ideal S128x1024 .f32) (r l : ℕ) (h : ∀ a, (![r, l] : Fin 2 → ℕ) a + S64x128.size a ≤ S128x1024.size a) (i : Fin 64) (j : Fin 128) (a : Fin 128) (b : Fin 1024)
    (ha : a.val = r + i.val) (hb : b.val = l + j.val) : tile x r l h (ix2 i j) = x (ix2 a b) := by
  refine congrArg x (funext fun d => ?_)
  fin_cases d
  · exact Fin.ext (show r + 1 * i.val = a.val by omega)
  · exact Fin.ext (show l + 1 * j.val = b.val by omega)

/-- The outputs of one grid point. -/
theorem odP_L (D : Rows) (R : ℕ) (s : ℕ → Delta.State) (x4 : Vec Ideal S128x1024 .f32) (x6 : Vec Ideal S1x128 .f32) (c : Fin 2) (n : Fin 8) (i : Fin 64) (j : Fin 128) :
    odP (D.x0 R) (D.x1 R) (D.x2 R) (D.x3 R) x4 x6 (L (φ := .f32) (sF s)) c n (ix2 i j)
      = gated ((D.tok R n.val).out (s n.val) (64 * c.val + i.val)) j (x6 (ix2 0 j)) (x4 (ix2 ⟨64 * c.val + i.val, by omega⟩ ⟨128 * n.val + j.val, by omega⟩)) := by
  unfold odP
  rw [out00, out01, out10, out11]
  have key : ∀ (N N' t t' : ℕ) (z : EReal) (z' : EReal), N = N' → t = t' → z = z' →
      gated ((D.tok R N).out (s N) t) j (x6 (ix2 0 j)) z = gated ((D.tok R N').out (s N') t') j (x6 (ix2 0 j)) z' := by
    intro _ _ _ _ _ _ h1 h2 h3; rw [h1, h2, h3]
  fin_cases c <;> fin_cases n
  · refine (on_od0 _ _ _ i j).trans (key _ _ _ _ _ _ (by dsimp only <;> omega) (by dsimp only <;> omega) (tile_at _ _ _ _ i j _ _ (by dsimp only <;> omega) (by dsimp only <;> omega)))
  · refine (on_od1 _ _ _ i j).trans (key _ _ _ _ _ _ (by dsimp only <;> omega) (by dsimp only <;> omega) (tile_at _ _ _ _ i j _ _ (by dsimp only <;> omega) (by dsimp only <;> omega)))
  · refine (on_od2 _ _ _ i j).trans (key _ _ _ _ _ _ (by dsimp only <;> omega) (by dsimp only <;> omega) (tile_at _ _ _ _ i j _ _ (by dsimp only <;> omega) (by dsimp only <;> omega)))
  · refine (on_od3 _ _ _ i j).trans (key _ _ _ _ _ _ (by dsimp only <;> omega) (by dsimp only <;> omega) (tile_at _ _ _ _ i j _ _ (by dsimp only <;> omega) (by dsimp only <;> omega)))
  · refine (on_od0 _ _ _ i j).trans (key _ _ _ _ _ _ (by dsimp only <;> omega) (by dsimp only <;> omega) (tile_at _ _ _ _ i j _ _ (by dsimp only <;> omega) (by dsimp only <;> omega)))
  · refine (on_od1 _ _ _ i j).trans (key _ _ _ _ _ _ (by dsimp only <;> omega) (by dsimp only <;> omega) (tile_at _ _ _ _ i j _ _ (by dsimp only <;> omega) (by dsimp only <;> omega)))
  · refine (on_od2 _ _ _ i j).trans (key _ _ _ _ _ _ (by dsimp only <;> omega) (by dsimp only <;> omega) (tile_at _ _ _ _ i j _ _ (by dsimp only <;> omega) (by dsimp only <;> omega)))
  · refine (on_od3 _ _ _ i j).trans (key _ _ _ _ _ _ (by dsimp only <;> omega) (by dsimp only <;> omega) (tile_at _ _ _ _ i j _ _ (by dsimp only <;> omega) (by dsimp only <;> omega)))
  · refine (on_od0 _ _ _ i j).trans (key _ _ _ _ _ _ (by dsimp only <;> omega) (by dsimp only <;> omega) (tile_at _ _ _ _ i j _ _ (by dsimp only <;> omega) (by dsimp only <;> omega)))
  · refine (on_od1 _ _ _ i j).trans (key _ _ _ _ _ _ (by dsimp only <;> omega) (by dsimp only <;> omega) (tile_at _ _ _ _ i j _ _ (by dsimp only <;> omega) (by dsimp only <;> omega)))
  · refine (on_od2 _ _ _ i j).trans (key _ _ _ _ _ _ (by dsimp only <;> omega) (by dsimp only <;> omega) (tile_at _ _ _ _ i j _ _ (by dsimp only <;> omega) (by dsimp only <;> omega)))
  · refine (on_od3 _ _ _ i j).trans (key _ _ _ _ _ _ (by dsimp only <;> omega) (by dsimp only <;> omega) (tile_at _ _ _ _ i j _ _ (by dsimp only <;> omega) (by dsimp only <;> omega)))
  · refine (on_od0 _ _ _ i j).trans (key _ _ _ _ _ _ (by dsimp only <;> omega) (by dsimp only <;> omega) (tile_at _ _ _ _ i j _ _ (by dsimp only <;> omega) (by dsimp only <;> omega)))
  · refine (on_od1 _ _ _ i j).trans (key _ _ _ _ _ _ (by dsimp only <;> omega) (by dsimp only <;> omega) (tile_at _ _ _ _ i j _ _ (by dsimp only <;> omega) (by dsimp only <;> omega)))
  · refine (on_od2 _ _ _ i j).trans (key _ _ _ _ _ _ (by dsimp only <;> omega) (by dsimp only <;> omega) (tile_at _ _ _ _ i j _ _ (by dsimp only <;> omega) (by dsimp only <;> omega)))
  · refine (on_od3 _ _ _ i j).trans (key _ _ _ _ _ _ (by dsimp only <;> omega) (by dsimp only <;> omega) (tile_at _ _ _ _ i j _ _ (by dsimp only <;> omega) (by dsimp only <;> omega)))

theorem glue_L (D : Rows) (R : ℕ) (s : ℕ → Delta.State) (x4 : Vec Ideal S128x1024 .f32) (x6 : Vec Ideal S1x128 .f32) (i : Fin 128) (l : Fin 1024) :
    glue (odP (D.x0 R) (D.x1 R) (D.x2 R) (D.x3 R) x4 x6 (L (φ := .f32) (sF s))) (ix2 i l)
      = gated ((D.tok R (l.val / 128)).out (s (l.val / 128)) i.val) ⟨l.val % 128, by omega⟩ (x6 (ix2 0 ⟨l.val % 128, by omega⟩)) (x4 (ix2 i l)) := by
  refine (odP_L D R s x4 x6 ⟨i.val / 64, by omega⟩ ⟨l.val / 128, by omega⟩ ⟨i.val % 64, by omega⟩ ⟨l.val % 128, by omega⟩).trans ?_
  have e1 : 64 * (i.val / 64) + i.val % 64 = i.val := by omega
  have e2 : 128 * (l.val / 128) + l.val % 128 = l.val := by omega
  simp only [e1, e2]

end Cert.KernelIdeal.Body
-- ==== Proof.Fold.lean ====
module

public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.KernelIdeal.Body
open Cert.KernelIdeal Cert.KernelIdeal.Gen Cert.KernelIdeal.Value

variable (m : (ℓ : Loc nD τ sig) → Buf (Elt Ideal) ℓ) (c : Dev nD)

/-- The arguments' contents are these reals. -/
structure Holds (D : Rows) (S : ℕ → ℕ → Delta.State) : Prop where
  q : ∀ (r : Fin 16384) (l : Fin 1024), m ((c : Thread nD τ).loc main_arg0) (ix2 r l) = ((D.q r.val l.val : ℝ) : EReal)
  k : ∀ (r : Fin 16384) (l : Fin 1024), m ((c : Thread nD τ).loc main_arg1) (ix2 r l) = ((D.k r.val l.val : ℝ) : EReal)
  v : ∀ (r : Fin 16384) (l : Fin 1024), m ((c : Thread nD τ).loc main_arg2) (ix2 r l) = ((D.v r.val l.val : ℝ) : EReal)
  bg : ∀ (r : Fin 16384) (l : Fin 128), m ((c : Thread nD τ).loc main_arg3) (ix2 r l) = ((D.bg r.val l.val : ℝ) : EReal)
  s : ∀ (b n : Fin 8) (a j : Fin 128), m ((c : Thread nD τ).loc main_arg5) (ix4 b n a j) = ((S b.val n.val a j : ℝ) : EReal)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val / 16, 0, 0] ∧ win0_6.index t = ![0, 0] :=
  (by decide +kernel : ∀ t : Fin grid0.N, _)

theorem lt128 (t : Fin cfg0.N) : t.val < 128 := lt_of_lt_of_eq t.isLt N_0

theorem in0 (t : Fin cfg0.N) (i : Fin 128) (j : Fin 1024) : iblk m c 0 t (ix2 i j) = m ((c : Thread nD τ).loc main_arg0) (ix2 ⟨128 * t.val + i.val, by have := lt128 t; omega⟩ j) := by
  have ht := lt128 t
  blk_ext! [iblk, V, idx t]
theorem in1 (t : Fin cfg0.N) (i : Fin 128) (j : Fin 1024) : iblk m c 1 t (ix2 i j) = m ((c : Thread nD τ).loc main_arg1) (ix2 ⟨128 * t.val + i.val, by have := lt128 t; omega⟩ j) := by
  have ht := lt128 t
  blk_ext! [iblk, V, idx t]
theorem in2 (t : Fin cfg0.N) (i : Fin 128) (j : Fin 1024) : iblk m c 2 t (ix2 i j) = m ((c : Thread nD τ).loc main_arg2) (ix2 ⟨128 * t.val + i.val, by have := lt128 t; omega⟩ j) := by
  have ht := lt128 t
  blk_ext! [iblk, V, idx t]
theorem in3 (t : Fin cfg0.N) (i : Fin 128) (j : Fin 128) : iblk m c 3 t (ix2 i j) = m ((c : Thread nD τ).loc main_arg3) (ix2 ⟨128 * t.val + i.val, by have := lt128 t; omega⟩ j) := by
  have ht := lt128 t
  blk_ext! [iblk, V, idx t]
theorem in4 (t : Fin cfg0.N) (i : Fin 128) (j : Fin 1024) : iblk m c 4 t (ix2 i j) = m ((c : Thread nD τ).loc main_arg4) (ix2 ⟨128 * t.val + i.val, by have := lt128 t; omega⟩ j) := by
  have ht := lt128 t
  blk_ext! [iblk, V, idx t]
theorem in5 (t : Fin cfg0.N) (i : Fin 128) (j : Fin 1024) : iblk m c 5 t (ix3 0 i j) = m ((c : Thread nD τ).loc main_arg5) (ix4 ⟨t.val / 16, by have := lt128 t; omega⟩ ⟨j.val / 128, by omega⟩ i ⟨j.val % 128, by omega⟩) := by
  have ht := lt128 t
  blk_ext! [iblk, V, idx t]
theorem in6 (t : Fin cfg0.N) (j : Fin 128) : iblk m c 6 t (ix2 0 j) = m ((c : Thread nD τ).loc main_arg6) (ix1 j) := by
  have ht := lt128 t
  blk_ext! [iblk, V, idx t]

/-! ## The fold over the points -/

variable {D : Rows} {S : ℕ → ℕ → Delta.State} (hm : Holds m c D S)

/-- The heads' states before point `n` … -/
def sB (D : Rows) (S : ℕ → ℕ → Delta.State) (n : ℕ) : ℕ → Delta.State := fun h => (D.tok (2048 * (n / 16)) h).st (S (n / 16) h) (128 * (n % 16))
/-- … and after it. -/
def sA (D : Rows) (S : ℕ → ℕ → Delta.State) (n : ℕ) : ℕ → Delta.State := fun h => (D.tok (2048 * (n / 16)) h).st (S (n / 16) h) (128 * (n % 16) + 128)

theorem sA_eq (n : ℕ) : (fun h => (D.tok (128 * n) h).st (sB D S n h) 128) = sA D S n := by
  funext h
  have e : 128 * n = 2048 * (n / 16) + 128 * (n % 16) := by omega
  rw [sA, Delta.Toks.st_add, Rows.tok_shift, ← e]
  rfl

include hm
theorem x0_eq (t : Fin cfg0.N) : iblk m c 0 t = D.x0 (128 * t.val) := extL (φ := .f32) fun i j => (in0 m c t i j).trans (hm.q _ _)
theorem x1_eq (t : Fin cfg0.N) : iblk m c 1 t = D.x1 (128 * t.val) := extL (φ := .f32) fun i j => (in1 m c t i j).trans (hm.k _ _)
theorem x2_eq (t : Fin cfg0.N) : iblk m c 2 t = D.x2 (128 * t.val) := extL (φ := .f32) fun i j => (in2 m c t i j).trans (hm.v _ _)
theorem x3_eq (t : Fin cfg0.N) : iblk m c 3 t = D.x3 (128 * t.val) := extL (φ := .f32) fun i j => (in3 m c t i j).trans (hm.bg _ _)
theorem x5_eq (t : Fin cfg0.N) (h0 : t.val % 16 = 0) : k0_pay2 (F := Ideal) (iblk m c 5 t) = L (φ := .f32) (sF (sB D S t.val)) := by
  refine extL fun i j => ?_
  have e : k0_pay2 (F := Ideal) (iblk m c 5 t) (ix2 i j) = iblk m c 5 t (ix3 0 i j) := by
    pointwise [k0_pay2]
  rw [e, in5, hm.s]
  unfold sF sB
  rw [h0]
  rfl

/-- A first point of a batch: the scratch and the outputs it leaves. -/
theorem step_A (t : Fin cfg0.N) (acc) (h0 : t.val % 16 = 0) :
    (stAt0 m c t.val t.isLt acc).2.2 = L (φ := .f32) (sF (sA D S t.val))
      ∧ (stAt0 m c t.val t.isLt acc).1 = glue (odP (D.x0 (128 * t.val)) (D.x1 (128 * t.val)) (D.x2 (128 * t.val)) (D.x3 (128 * t.val)) (iblk m c 4 t) (iblk m c 6 t) (L (φ := .f32) (sF (sB D S t.val)))) := by
  rw [stAt0_A m c t acc h0]
  dsimp only
  constructor
  · refine (sout_A ..).trans ?_
    rw [x0_eq m c hm, x1_eq m c hm, x2_eq m c hm, x3_eq m c hm, x5_eq m c hm t h0, nextS_L, sA_eq]
  · refine (out7_A ..).trans ?_
    rw [x0_eq m c hm, x1_eq m c hm, x2_eq m c hm, x3_eq m c hm, x5_eq m c hm t h0]
/-- A later point, over the state the point before left. -/
theorem step_B (t : Fin cfg0.N) (acc : FVec Ideal S128x1024 .bf16 × FVec Ideal S1x128x1024 .f32 × FVec Ideal S128x1024 .f32) (h0 : ¬ t.val % 16 = 0) (ha : acc.2.2 = L (φ := .f32) (sF (sB D S t.val))) :
    (stAt0 m c t.val t.isLt acc).2.2 = L (φ := .f32) (sF (sA D S t.val))
      ∧ (stAt0 m c t.val t.isLt acc).1 = glue (odP (D.x0 (128 * t.val)) (D.x1 (128 * t.val)) (D.x2 (128 * t.val)) (D.x3 (128 * t.val)) (iblk m c 4 t) (iblk m c 6 t) (L (φ := .f32) (sF (sB D S t.val))))
      ∧ (stAt0 m c t.val t.isLt acc).2.1 = k0_pay1 (F := Ideal) (L (φ := .f32) (sF (sA D S t.val))) := by
  rw [stAt0_B m c t acc h0]
  dsimp only
  refine ⟨?_, ?_, ?_⟩
  · refine (sout_B ..).trans ?_
    rw [x0_eq m c hm, x1_eq m c hm, x2_eq m c hm, x3_eq m c hm, ha, nextS_L, sA_eq]
  · refine (out7_B ..).trans ?_
    rw [x0_eq m c hm, x1_eq m c hm, x2_eq m c hm, x3_eq m c hm, ha]
  · refine (out8_B ..).trans ?_
    rw [x0_eq m c hm, x1_eq m c hm, x2_eq m c hm, x3_eq m c hm, ha, nextS_L, sA_eq]

/-- What the fold holds after point `n`. -/
theorem fold_at : ∀ (n : ℕ) (h : 0 + n < cfg0.N), let a := Pipeline.accAt (fun n h => stAt0 m c n h junk0) (stAt0 m c) 0 n h
    a.2.2 = L (φ := .f32) (sF (sA D S n))
      ∧ a.1 = glue (odP (D.x0 (128 * n)) (D.x1 (128 * n)) (D.x2 (128 * n)) (D.x3 (128 * n)) (iblk m c 4 ⟨n, by omega⟩) (iblk m c 6 ⟨n, by omega⟩) (L (φ := .f32) (sF (sB D S n))))
      ∧ (¬ n % 16 = 0 → a.2.1 = k0_pay1 (F := Ideal) (L (φ := .f32) (sF (sA D S n)))) := by
  intro n
  induction n with
  | zero =>
    intro h
    have := step_A m c hm ⟨0, by omega⟩ junk0 rfl
    exact ⟨this.1, this.2, fun h => absurd rfl h⟩
  | succ n ih =>
    intro h
    have hb : n + 1 < cfg0.N := by omega
    have e : Pipeline.accAt (fun n h => stAt0 m c n h junk0) (stAt0 m c) 0 (n + 1) h = stAt0 m c (n + 1) hb (Pipeline.accAt (fun n h => stAt0 m c n h junk0) (stAt0 m c) 0 n (by omega)) := by
      rw [Pipeline.accAt_succ]
      congr 1
      omega
    dsimp only
    rw [e]
    by_cases h0 : (n + 1) % 16 = 0
    · have := step_A m c hm ⟨n + 1, hb⟩ (Pipeline.accAt (fun n h => stAt0 m c n h junk0) (stAt0 m c) 0 n (by omega)) h0
      exact ⟨this.1, this.2, fun h => absurd h0 h⟩
    · have e' : sA D S n = sB D S (n + 1) := by
        unfold sA sB
        rw [show (n + 1) / 16 = n / 16 by omega, show 128 * ((n + 1) % 16) = 128 * (n % 16) + 128 by omega]
      have := step_B m c hm ⟨n + 1, hb⟩ (Pipeline.accAt (fun n h => stAt0 m c n h junk0) (stAt0 m c) 0 n (by omega)) h0 ((ih (by omega)).1.trans (by rw [e']))
      exact ⟨this.1, this.2.1, fun _ => this.2.2⟩

/-- The kernel's outputs, by the recurrence. -/
theorem G7_at (r : Fin 16384) (l : Fin 1024) : G7 m c (ix2 r l)
    = gated ((D.tok (2048 * (r.val / 2048)) (l.val / 128)).out (S (r.val / 2048) (l.val / 128)) (r.val % 2048)) ⟨l.val % 128, by omega⟩
        (m ((c : Thread nD τ).loc main_arg6) (ix1 ⟨l.val % 128, by omega⟩)) (m ((c : Thread nD τ).loc main_arg4) (ix2 r l)) := by
  have hN : cfg0.N = 128 := N_0
  have hp : pt7Of (ix2 r l) = r.val / 128 := by
    show 1 * (r.val / 128 - 0) + 1 * (l.val / 1024 - 0) = _
    omega
  have hlt : pt7Of (ix2 r l) < cfg0.N := by rw [hp, hN]; omega
  have hlt' : 0 + r.val / 128 < cfg0.N := by rw [hN]; omega
  unfold G7
  rw [dif_pos hlt, fold0_congr m c (pt7Of (ix2 r l)) (by omega) (r.val / 128) hlt' hp, (fold_at m c hm (r.val / 128) hlt').2.1]
  have el : loc7Of (ix2 r l) = ix2 ⟨r.val % 128, by omega⟩ l := by
    funext a
    fin_cases a
    · rfl
    · exact Fin.ext (Nat.mod_eq_of_lt l.isLt)
  rw [el, glue_L, in4, in6]
  have e1 : 128 * (r.val / 128) + r.val % 128 = r.val := by omega
  have e2 : r.val / 128 / 16 = r.val / 2048 := by omega
  have e3 : 128 * (r.val / 128) = 2048 * (r.val / 2048) + 128 * (r.val / 128 % 16) := by omega
  have e4 : 128 * (r.val / 128 % 16) + r.val % 128 = r.val % 2048 := by omega
  have eo : (D.tok (128 * (r.val / 128)) (l.val / 128)).out (sB D S (r.val / 128) (l.val / 128)) (r.val % 128)
      = (D.tok (2048 * (r.val / 2048)) (l.val / 128)).out (S (r.val / 2048) (l.val / 128)) (r.val % 2048) := by
    rw [← e4, Delta.Toks.out_add, Rows.tok_shift, ← e3, sB, e2]
  simp only [eo, e1]

/-- The kernel's final states, by the recurrence. -/
theorem G8_at (b : Fin 8) (a : Fin 128) (l : Fin 1024) : G8 m c (ix3 b a l)
    = (((D.tok (2048 * b.val) (l.val / 128)).st (S b.val (l.val / 128)) 2048 a ⟨l.val % 128, by omega⟩ : ℝ) : EReal) := by
  have hN : cfg0.N = 128 := N_0
  have hp : pt8Of (ix3 b a l) = 16 * b.val + 15 := by
    show 16 * (1 * (b.val / 1 - 0) + 1 * (a.val / 128 - 0) + 1 * (l.val / 1024 - 0)) + 15 = _
    omega
  have hlt : pt8Of (ix3 b a l) < cfg0.N := by rw [hp, hN]; omega
  have hlt' : 0 + (16 * b.val + 15) < cfg0.N := by rw [hN]; omega
  unfold G8
  rw [dif_pos hlt, fold0_congr m c (pt8Of (ix3 b a l)) (by omega) (16 * b.val + 15) hlt' hp, (fold_at m c hm (16 * b.val + 15) hlt').2.2 (by omega)]
  have el : loc8Of (ix3 b a l) = ix3 0 a l := by
    funext d
    fin_cases d
    · exact Fin.ext (Nat.mod_one _)
    · exact Fin.ext (Nat.mod_eq_of_lt a.isLt)
    · exact Fin.ext (Nat.mod_eq_of_lt l.isLt)
  rw [el]
  have ep : k0_pay1 (F := Ideal) (L (φ := .f32) (sF (sA D S (16 * b.val + 15)))) (ix3 0 a l) = L (φ := .f32) (sF (sA D S (16 * b.val + 15))) (ix2 a l) := by
    pointwise [k0_pay1]
  rw [ep, L_apply]
  unfold sF sA
  rw [show (16 * b.val + 15) / 16 = b.val by omega, show 128 * ((16 * b.val + 15) % 16) + 128 = 2048 by omega]

end Cert.KernelIdeal.Body
-- ==== Proof.Ref.lean ====
/- The reference's run: its loop over the tokens is the recurrence `Delta.Toks.st`, a batch and a head at a time, and its results are the
   kernel's formulas of it. -/
module

public import proofs.«01_k».proof.Proof.Gen.ReferenceIdeal.Run
public import proofs.«01_k».proof.Proof.Fold
public import proofs.«01_k».proof.Defs
public import Idealize.ShloMosaic.Lib.DynamicIndex
public import Idealize.ShloMosaic.Lib.WordCmp

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo

/-! ## The frame -/

/-- The program has no semaphore. -/
theorem no_sem (s : SemLoc sig) : False := by
  rcases s with s | s <;> exact s.elim0

section
variable {F : FTy → Type} [FloatOps F]
variable (m : (ℓ : Loc nD τ sig) → Buf (Elt F) ℓ) (ρ : Dev nD → PrngReg)

/-- The references that the operations after the loop write, in order. -/
abbrev hostOps0_1_W : List (Ref sig .tc) := [main_v14, main_cst_0, main_v15, main_v16, main_cst_1, main_v17, main_v18, main_cst_2, main_v19, main_v20, main_v21, main_v22, main_v23, main_v24, main_v25, main_v26, main_v27, main_v28, main_cst_3, main_v29, main_v30, main_cst_4, main_v31, main_v32, main_v33, main_v34, main_v35, main_v36, main_v37, main_v38, main_v39]
theorem hostOps0_1_writes : (hostOps0_1 : List (HloOp τ sig (Elt F))).Forall fun op => op.writes ⊆ (hostOps0_1_W.map (Proc.devRef (τ := τ) .tc)).toFinset :=
  StableHlo.forall_writes_sub_of_map rfl

/-- A buffer that no operation writes holds what it held at launch. -/
theorem final_keep (c : Dev nD) (r : Ref sig .tc) (h0 : r ∉ hostOps0_W) (h1 : r ∉ hostOps0_1_W) (hc : r ∉ condOps_W)
    (b0 : r ∉ while0Ops0_W) (b1 : r ∉ while0Ops0_1_W) (b2 : r ∉ while0Ops0_2_W) (b3 : r ∉ while0Ops0_3_W) (b4 : r ∉ while0Ops0_4_W)
    (b5 : r ∉ while0Ops0_5_W) (b6 : r ∉ while0Ops0_6_W) (b7 : r ∉ while0Ops0_7_W) :
    finalContents condOps preI bodyI postI 2048 m c (Proc.devRef .tc r) = m ((c.tc : Thread nD τ).loc r) := by
  have hk : ∀ k, atK m k c (Proc.devRef .tc r) = m ((c.tc : Thread nD τ).loc r) := by
    intro k
    induction k with
    | zero => exact after_of_writes_sub hostOps0 _ hostOps0_writes h0
    | succ k ih =>
      rw [show atK m (k + 1) c = afterL bodyI (after condOps (atK m k c)) from rfl]
      simp only [afterL_cons, afterL_nil]
      rw [after_of_writes_sub while0Ops0_7 _ while0Ops0_7_writes b7, after_of_writes_sub while0Ops0_6 _ while0Ops0_6_writes b6,
        after_of_writes_sub while0Ops0_5 _ while0Ops0_5_writes b5, after_of_writes_sub while0Ops0_4 _ while0Ops0_4_writes b4,
        after_of_writes_sub while0Ops0_3 _ while0Ops0_3_writes b3, after_of_writes_sub while0Ops0_2 _ while0Ops0_2_writes b2,
        after_of_writes_sub while0Ops0_1 _ while0Ops0_1_writes b1, after_of_writes_sub while0Ops0 _ while0Ops0_writes b0,
        after_of_writes_sub condOps _ condOps_writes hc, ih]
  exact (after_of_writes_sub hostOps0_1 _ hostOps0_1_writes h1).trans ((after_of_writes_sub condOps _ condOps_writes hc).trans (hk 2048))

/-- The argument arrays end unchanged. -/
theorem args_keep (c : Dev nD) :
    finalContents condOps preI bodyI postI 2048 m c (Proc.devRef .tc main_arg0) = m ((c.tc : Thread nD τ).loc main_arg0)
      ∧ finalContents condOps preI bodyI postI 2048 m c (Proc.devRef .tc main_arg1) = m ((c.tc : Thread nD τ).loc main_arg1)
      ∧ finalContents condOps preI bodyI postI 2048 m c (Proc.devRef .tc main_arg2) = m ((c.tc : Thread nD τ).loc main_arg2)
      ∧ finalContents condOps preI bodyI postI 2048 m c (Proc.devRef .tc main_arg3) = m ((c.tc : Thread nD τ).loc main_arg3)
      ∧ finalContents condOps preI bodyI postI 2048 m c (Proc.devRef .tc main_arg4) = m ((c.tc : Thread nD τ).loc main_arg4)
      ∧ finalContents condOps preI bodyI postI 2048 m c (Proc.devRef .tc main_arg5) = m ((c.tc : Thread nD τ).loc main_arg5)
      ∧ finalContents condOps preI bodyI postI 2048 m c (Proc.devRef .tc main_arg6) = m ((c.tc : Thread nD τ).loc main_arg6) := by
  refine ⟨?_, ?_, ?_, ?_, ?_, ?_, ?_⟩ <;>
    exact final_keep m c _ (by decide) (by decide) (by decide) (by decide) (by decide) (by decide) (by decide) (by decide) (by decide) (by decide) (by decide)

/-- The reference's frame: it ends with its arguments unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := F)) _ _).mono (fun r h => ⟨fun c => by
      obtain ⟨a0, a1, a2, a3, a4, a5, a6⟩ := args_keep m c
      exact ⟨(h c _ rfl).trans a0, (h c _ rfl).trans a1, (h c _ rfl).trans a2, (h c _ rfl).trans a3, (h c _ rfl).trans a4, (h c _ rfl).trans a5, (h c _ rfl).trans a6⟩,
    funext fun g => (no_sem g.2).elim⟩) (run_fold m ρ)
end

/-! ## One token -/

/-- A token's rows: of an array by token, batch, head and channel. -/
theorem row4 {k : ℕ} (hk : k < 2048) (x : FVec Ideal S2048x8x8x128 .f32) (ct : IVec S_ 32) (hc : ct = fun _ => BitVec.ofNat 32 k) (b h : Fin 8) (j : Fin 128) :
    shapeCast S8x8x128 (Host.dynamicSlice S1x8x8x128 x (fun k => (((![ct, constantI S_ 32 0#32, constantI S_ 32 0#32, constantI S_ 32 0#32] : Fin 4 → IVec S_ 32)) k (Shape.Idx.first h_S_)).toInt) sliceFits_S2048x8x8x128_S1x8x8x128) shapeCasts_S1x8x8x128_S8x8x128 (ix3 b h j)
      = x (ix4 ⟨k, hk⟩ b h j) := by
  rw [Host.dynamicSlice_eq_extractStridedSlice S1x8x8x128 x _ ![k, 0, 0, 0] _ ⟨rfl, fun a => by fin_cases a <;> simp <;> omega⟩
    (fun a => by subst hc; fin_cases a; · exact toInt_ofNat_of_lt (by omega)
                 all_goals rfl)]
  pointwise
/-- A token's row of the rates or of the log decays. -/
theorem row3 {k : ℕ} (hk : k < 2048) (x : FVec Ideal S2048x8x8 .f32) (ct : IVec S_ 32) (hc : ct = fun _ => BitVec.ofNat 32 k) (b h : Fin 8) :
    shapeCast S8x8 (Host.dynamicSlice S1x8x8 x (fun k => (((![ct, constantI S_ 32 0#32, constantI S_ 32 0#32] : Fin 3 → IVec S_ 32)) k (Shape.Idx.first h_S_)).toInt) sliceFits_S2048x8x8_S1x8x8) shapeCasts_S1x8x8_S8x8 (ix2 b h)
      = x (ix3 ⟨k, hk⟩ b h) := by
  rw [Host.dynamicSlice_eq_extractStridedSlice S1x8x8 x _ ![k, 0, 0] _ ⟨rfl, fun a => by fin_cases a <;> simp <;> omega⟩
    (fun a => by subst hc; fin_cases a; · exact toInt_ofNat_of_lt (by omega)
                 all_goals rfl)]
  pointwise
/-- A token's row written: that row, the others kept. -/
theorem put4 {k : ℕ} (hk : k < 2048) (x : FVec Ideal S2048x8x8x128 .f32) (y : FVec Ideal S8x8x128 .f32) (ct : IVec S_ 32) (hc : ct = fun _ => BitVec.ofNat 32 k) (t : Fin 2048) (b h : Fin 8) (j : Fin 128) :
    Host.dynamicUpdateSlice x (broadcastInDim S1x8x8x128 ![1, 2, 3] bcast_S8x8x128_S1x8x8x128_1_2_3 y) (fun k => (((![ct, constantI S_ 32 0#32, constantI S_ 32 0#32, constantI S_ 32 0#32] : Fin 4 → IVec S_ 32)) k (Shape.Idx.first h_S_)).toInt) updateFits_S2048x8x8x128_S1x8x8x128 (ix4 t b h j)
      = if t.val = k then y (ix3 b h j) else x (ix4 t b h j) := by
  rw [WordCmp.dynamicUpdateSlice_eq_update (u := S1x8x8x128) x _ _ _ ![k, 0, 0, 0] ⟨rfl, fun a => by fin_cases a <;> simp <;> omega⟩
    (fun a => by subst hc; fin_cases a; · exact toInt_ofNat_of_lt (by omega)
                 all_goals rfl)]
  pointwise
  by_cases h1 : t.val = k
  · rw [dif_pos ⟨by omega, by omega⟩, if_pos h1]
  · rw [dif_neg (by omega), if_neg h1]
/-- The product over the channels of a batch's head. -/
theorem dot3 (x : FVec Ideal S8x8x128 .f32) (y : FVec Ideal S8x8x128x128 .f32) (b h : Fin 8) (j : Fin 128) :
    Host.dotGeneral dot_S8x8x128_S8x8x128x128_S8x8x128_2_2_n_3_01_01 none x y (ix3 b h j) = ∑ a : Fin 128, x (ix3 b h a) * y (ix4 b h a j) := by
  pointwise

/-! The loop's buffers: queries, keys, values, rates, log decays, the counter, the states and the outputs. -/

abbrev cQ (V : Valuation τ sig (Elt Ideal)) : FVec Ideal S2048x8x8x128 .f32 := V (Proc.devRef .tc main_v13_0)
abbrev cK (V : Valuation τ sig (Elt Ideal)) : FVec Ideal S2048x8x8x128 .f32 := V (Proc.devRef .tc main_v13_1)
abbrev cV (V : Valuation τ sig (Elt Ideal)) : FVec Ideal S2048x8x8x128 .f32 := V (Proc.devRef .tc main_v13_2)
abbrev cB (V : Valuation τ sig (Elt Ideal)) : FVec Ideal S2048x8x8 .f32 := V (Proc.devRef .tc main_v13_3)
abbrev cG (V : Valuation τ sig (Elt Ideal)) : FVec Ideal S2048x8x8 .f32 := V (Proc.devRef .tc main_v13_4)
abbrev cN (V : Valuation τ sig (Elt Ideal)) : IVec S_ 32 := V (Proc.devRef .tc main_v13_5)
abbrev cS (V : Valuation τ sig (Elt Ideal)) : FVec Ideal S8x8x128x128 .f32 := V (Proc.devRef .tc main_v13_6)
abbrev cO (V : Valuation τ sig (Elt Ideal)) : FVec Ideal S2048x8x8x128 .f32 := V (Proc.devRef .tc main_v13_7)
/-- The decayed states of a trip. -/
abbrev dS (V : Valuation τ sig (Elt Ideal)) : FVec Ideal S8x8x128x128 .f32 := res_main_while0b_v48 V
/-- The states that a trip leaves. -/
abbrev nS (V : Valuation τ sig (Elt Ideal)) : FVec Ideal S8x8x128x128 .f32 := res_main_while0b_v59 V
/-- The keys of a trip. -/
abbrev kS (V : Valuation τ sig (Elt Ideal)) : FVec Ideal S8x8x128 .f32 := res_main_while0b_v41 V

section
variable {k : ℕ} (hk : k < 2048) (V : Valuation τ sig (Elt Ideal)) (hc : cN V = fun _ => BitVec.ofNat 32 k)
include hc

theorem kS_at (b h : Fin 8) (a : Fin 128) : kS V (ix3 b h a) = cK V (ix4 ⟨k, hk⟩ b h a) := row4 hk (cK V) (cN V) hc b h a

/-- A token's decayed state. -/
theorem dS_at (b h : Fin 8) (a j : Fin 128) : dS V (ix4 b h a j) = Ideal.exp (cG V (ix3 ⟨k, hk⟩ b h)) * cS V (ix4 b h a j) := by
  rw [← row3 hk (cG V) (cN V) hc b h]
  unfold dS res_main_while0b_v48
  pointwise
  rfl
/-- A token's state. -/
theorem nS_at (b h : Fin 8) (a j : Fin 128) : nS V (ix4 b h a j)
    = dS V (ix4 b h a j) + cK V (ix4 ⟨k, hk⟩ b h a) * (cB V (ix3 ⟨k, hk⟩ b h) * (cV V (ix4 ⟨k, hk⟩ b h j) - ∑ x : Fin 128, cK V (ix4 ⟨k, hk⟩ b h x) * dS V (ix4 b h x j))) := by
  simp only [← kS_at hk V hc]
  rw [← row4 hk (cV V) (cN V) hc, ← row3 hk (cB V) (cN V) hc, ← dot3]
  unfold nS res_main_while0b_v59
  pointwise
  rfl
/-- The outputs that a trip leaves: the token's own row, the others kept. -/
theorem oS_at (t : Fin 2048) (b h : Fin 8) (j : Fin 128) : (step_main_v13_7 V : FVec Ideal S2048x8x8x128 .f32) (ix4 t b h j)
    = if t.val = k then ∑ x : Fin 128, cQ V (ix4 ⟨k, hk⟩ b h x) * nS V (ix4 b h x j) else cO V (ix4 t b h j) := by
  simp only [← row4 hk (cQ V) (cN V) hc]
  rw [← dot3, ← put4 hk (cO V) _ (cN V) hc]
  rfl
end

/-! ## The loop -/

section
open Cert.KernelIdeal.Body (Rows)
variable (m : (ℓ : Loc nD τ sig) → Buf (Elt Ideal) ℓ) (c : Dev nD)

/-- What the reference's arguments hold. -/
structure Holds (D : Rows) (S : ℕ → ℕ → Delta.State) : Prop where
  q : ∀ (i : Fin 16384) (j : Fin 1024), (m ((c.tc : Thread nD τ).loc main_arg0) : FVec Ideal S16384x1024 .f32) (ix2 i j) = ((D.q i j : ℝ) : EReal)
  k : ∀ (i : Fin 16384) (j : Fin 1024), (m ((c.tc : Thread nD τ).loc main_arg1) : FVec Ideal S16384x1024 .f32) (ix2 i j) = ((D.k i j : ℝ) : EReal)
  v : ∀ (i : Fin 16384) (j : Fin 1024), (m ((c.tc : Thread nD τ).loc main_arg2) : FVec Ideal S16384x1024 .f32) (ix2 i j) = ((D.v i j : ℝ) : EReal)
  bg : ∀ (i : Fin 16384) (j : Fin 128), (m ((c.tc : Thread nD τ).loc main_arg3) : FVec Ideal S16384x128 .f32) (ix2 i j) = ((D.bg i j : ℝ) : EReal)
  s : ∀ (b n : Fin 8) (a j : Fin 128), (m ((c.tc : Thread nD τ).loc main_arg5) : FVec Ideal S8x8x128x128 .f32) (ix4 b n a j) = ((S b n a j : ℝ) : EReal)

/-- The contents on which the loop is entered. -/
abbrev V0 : Valuation τ sig (Elt Ideal) := entryContents preI m c

theorem entry_q (t : Fin 2048) (b h : Fin 8) (j : Fin 128) : cQ (V0 m c) (ix4 t b h j)
    = (m ((c.tc : Thread nD τ).loc main_arg0) : FVec Ideal S16384x1024 .f32) (ix2 ⟨2048 * b.val + t.val, by omega⟩ ⟨128 * h.val + j.val, by omega⟩) := by
  simp only [V0, entryContents, afterL_cons, afterL_nil]
  unfold cQ
  after_reads_simp
  simp only [id_eq]
  pointwise
  rw [launchContents]
  simp only [Nat.mul_comm b.val, Nat.mul_comm h.val]
theorem entry_k (t : Fin 2048) (b h : Fin 8) (j : Fin 128) : cK (V0 m c) (ix4 t b h j)
    = (m ((c.tc : Thread nD τ).loc main_arg1) : FVec Ideal S16384x1024 .f32) (ix2 ⟨2048 * b.val + t.val, by omega⟩ ⟨128 * h.val + j.val, by omega⟩) := by
  simp only [V0, entryContents, afterL_cons, afterL_nil]
  unfold cK
  after_reads_simp
  simp only [id_eq]
  pointwise
  rw [launchContents]
  simp only [Nat.mul_comm b.val, Nat.mul_comm h.val]
theorem entry_v (t : Fin 2048) (b h : Fin 8) (j : Fin 128) : cV (V0 m c) (ix4 t b h j)
    = (m ((c.tc : Thread nD τ).loc main_arg2) : FVec Ideal S16384x1024 .f32) (ix2 ⟨2048 * b.val + t.val, by omega⟩ ⟨128 * h.val + j.val, by omega⟩) := by
  simp only [V0, entryContents, afterL_cons, afterL_nil]
  unfold cV
  after_reads_simp
  simp only [id_eq]
  pointwise
  rw [launchContents]
  simp only [Nat.mul_comm b.val, Nat.mul_comm h.val]
theorem entry_z (t : Fin 2048) (b h : Fin 8) (j : Fin 128) : (V0 m c (Proc.devRef .tc main_v7) : FVec Ideal S2048x8x8x128 .f32) (ix4 t b h j)
    = (m ((c.tc : Thread nD τ).loc main_arg4) : FVec Ideal S16384x1024 .f32) (ix2 ⟨2048 * b.val + t.val, by omega⟩ ⟨128 * h.val + j.val, by omega⟩) := by
  simp only [V0, entryContents, afterL_cons, afterL_nil]
  after_reads_simp
  pointwise
  rw [launchContents]
  simp only [Nat.mul_comm b.val, Nat.mul_comm h.val]
theorem entry_s : cS (V0 m c) = (m ((c.tc : Thread nD τ).loc main_arg5) : FVec Ideal S8x8x128x128 .f32) := by
  simp only [V0, entryContents, afterL_cons, afterL_nil]
  unfold cS
  after_reads_simp
  rfl
theorem entry_b (t : Fin 2048) (b h : Fin 8) : cB (V0 m c) (ix3 t b h)
    = (m ((c.tc : Thread nD τ).loc main_arg3) : FVec Ideal S16384x128 .f32) (ix2 ⟨2048 * b.val + t.val, by omega⟩ ⟨h.val, by omega⟩) := by
  simp only [V0, entryContents, afterL_cons, afterL_nil]
  unfold cB
  after_reads_simp
  simp only [id_eq]
  pointwise
  rw [launchContents]
  simp only [Nat.mul_comm b.val]
theorem entry_g (t : Fin 2048) (b h : Fin 8) : cG (V0 m c) (ix3 t b h)
    = (m ((c.tc : Thread nD τ).loc main_arg3) : FVec Ideal S16384x128 .f32) (ix2 ⟨2048 * b.val + t.val, by omega⟩ ⟨8 + h.val, by omega⟩) := by
  simp only [V0, entryContents, afterL_cons, afterL_nil]
  unfold cG
  after_reads_simp
  simp only [id_eq]
  pointwise
  rw [launchContents]
  simp only [Nat.mul_comm b.val]
theorem entry_n : cN (V0 m c) = fun _ => BitVec.ofNat 32 0 := by
  simp only [V0, entryContents, afterL_cons, afterL_nil]
  unfold cN
  after_reads_simp
  rfl

/-- Before trip `k` the read arrays are the entry's, and the counter is `k`. -/
theorem loop_reads (k : ℕ) : cQ (STEP^[k] (V0 m c)) = cQ (V0 m c) ∧ cK (STEP^[k] (V0 m c)) = cK (V0 m c) ∧ cV (STEP^[k] (V0 m c)) = cV (V0 m c)
    ∧ cB (STEP^[k] (V0 m c)) = cB (V0 m c) ∧ cG (STEP^[k] (V0 m c)) = cG (V0 m c) ∧ cN (STEP^[k] (V0 m c)) = fun _ => BitVec.ofNat 32 k := by
  induction k with
  | zero => exact ⟨rfl, rfl, rfl, rfl, rfl, entry_n m c⟩
  | succ k ih =>
    obtain ⟨h0, h1, h2, h3, h4, h5⟩ := ih
    rw [Function.iterate_succ_apply']
    refine ⟨(STEP_main_v13_0 _).trans h0, (STEP_main_v13_1 _).trans h1, (STEP_main_v13_2 _).trans h2, (STEP_main_v13_3 _).trans h3, (STEP_main_v13_4 _).trans h4,
      (STEP_main_v13_5 _).trans ?_⟩
    show addi (cN (STEP^[k] (V0 m c))) (constantI S_ 32 1#32) = _
    rw [h5]
    funext i
    show BitVec.ofNat 32 k + 1#32 = _
    rw [BitVec.ofNat_add]

variable {D : Rows} {S : ℕ → ℕ → Delta.State} (hm : Holds m c D S)
include hm

/-- Before trip `k` the states are the recurrence's before token `k`, and the rows before `k` hold its outputs. -/
theorem loop_at (k : ℕ) (hk : k ≤ 2048) :
    (∀ (b h : Fin 8) (a j : Fin 128), cS (STEP^[k] (V0 m c)) (ix4 b h a j) = (((D.tok (2048 * b.val) h.val).st (S b.val h.val) k a j : ℝ) : EReal))
    ∧ (∀ (t : Fin 2048) (b h : Fin 8) (j : Fin 128), t.val < k → cO (STEP^[k] (V0 m c)) (ix4 t b h j) = (((D.tok (2048 * b.val) h.val).out (S b.val h.val) t.val j : ℝ) : EReal)) := by
  induction k with
  | zero => exact ⟨fun b h a j => by rw [Function.iterate_zero, id_eq, entry_s, hm.s]; rfl, fun t b h j ht => absurd ht (Nat.not_lt_zero _)⟩
  | succ k ih =>
    obtain ⟨hs, ho⟩ := ih (by omega)
    obtain ⟨h0, h1, h2, h3, h4, h5⟩ := loop_reads m c k
    have hk' : k < 2048 := hk
    have ed : ∀ (b h : Fin 8) (a j : Fin 128), dS (STEP^[k] (V0 m c)) (ix4 b h a j)
        = ((Real.exp ((D.tok (2048 * b.val) h.val).g k) * (D.tok (2048 * b.val) h.val).st (S b.val h.val) k a j : ℝ) : EReal) := by
      intro b h a j
      rw [dS_at hk' _ h5, h4, entry_g, hm.bg, hs, EReal.coe_mul]
      rfl
    have en : ∀ (b h : Fin 8) (a j : Fin 128), nS (STEP^[k] (V0 m c)) (ix4 b h a j)
        = (((D.tok (2048 * b.val) h.val).st (S b.val h.val) (k + 1) a j : ℝ) : EReal) := by
      intro b h a j
      have ek : ∀ x : Fin 128, cK (V0 m c) (ix4 ⟨k, hk'⟩ b h x) = (((D.tok (2048 * b.val) h.val).k k x : ℝ) : EReal) := by
        intro x
        rw [entry_k, hm.k]
        rfl
      have ev : cV (V0 m c) (ix4 ⟨k, hk'⟩ b h j) = (((D.tok (2048 * b.val) h.val).v k j : ℝ) : EReal) := by
        rw [entry_v, hm.v]
        rfl
      have eb : cB (V0 m c) (ix3 ⟨k, hk'⟩ b h) = (((D.tok (2048 * b.val) h.val).b k : ℝ) : EReal) := by
        rw [entry_b, hm.bg]
        rfl
      rw [nS_at hk' _ h5, h1, h2, h3]
      simp only [ed, ek, ev, eb, ← EReal.coe_mul, Cert.KernelIdeal.Body.coe_sum, ← EReal.coe_sub, ← EReal.coe_add]
      rfl
    rw [Function.iterate_succ_apply']
    refine ⟨fun b h a j => ?_, fun t b h j ht => ?_⟩
    · rw [← en]
      exact congrFun (STEP_main_v13_6 _) _
    · refine (congrFun (STEP_main_v13_7 (STEP^[k] (V0 m c))) (ix4 t b h j)).trans ?_
      refine (oS_at hk' _ h5 t b h j).trans ?_
      by_cases e : t.val = k
      · have eq : ∀ x : Fin 128, cQ (V0 m c) (ix4 ⟨k, hk'⟩ b h x) = (((D.tok (2048 * b.val) h.val).q k x : ℝ) : EReal) := by
          intro x
          rw [entry_q, hm.q]
          rfl
        rw [if_pos e, h0]
        simp only [en, eq, ← EReal.coe_mul, Cert.KernelIdeal.Body.coe_sum]
        rw [e]
        rfl
      · rw [if_neg e, ho t b h j (by omega)]
omit hm

/-! ## The results -/

theorem half : Ideal.ofBits FTy.f32 0x3F000000#32 = (((1 / 2 : ℝ)) : EReal) := by
  have h : (1056964608 >>> 23) % 256 = 126 := by decide
  norm_num [Ideal.ofBits, Ideal.ieee, h]
  clear h
  decide

/-- The logistic function by the hyperbolic tangent, at every extended real. -/
theorem sigmoid (z : EReal) : Ideal.div 1 (1 + Ideal.exp (-z))
    = Ideal.ofBits FTy.f32 0x3F000000#32 * Ideal.tanh (Ideal.ofBits FTy.f32 0x3F000000#32 * z) + Ideal.ofBits FTy.f32 0x3F000000#32 := by
  rw [half]
  induction z with
  | bot =>
    have e1 : Ideal.exp (-(⊥ : EReal)) = ⊤ := rfl
    rw [e1, EReal.coe_mul_bot_of_pos (by norm_num), show Ideal.tanh ⊥ = ((-1 : ℝ) : EReal) from rfl, ← EReal.coe_mul, ← EReal.coe_add,
      show (1 : EReal) + ⊤ = ⊤ from EReal.add_top_of_ne_bot (by decide)]
    norm_num [Ideal.div]
  | top =>
    have e1 : Ideal.exp (-(⊤ : EReal)) = 0 := rfl
    rw [e1, EReal.coe_mul_top_of_pos (by norm_num), show Ideal.tanh ⊤ = ((1 : ℝ) : EReal) from rfl, ← EReal.coe_mul, ← EReal.coe_add, add_zero]
    norm_num [Ideal.div]
  | coe r =>
    have hp : (0 : ℝ) < 1 + Real.exp (-r) := by positivity
    have e1 : (1 : EReal) + Ideal.exp (-(r : EReal)) = ((1 + Real.exp (-r) : ℝ) : EReal) := by rw [EReal.coe_add]; rfl
    rw [e1, ← EReal.coe_mul, show Ideal.tanh ((1 / 2 * r : ℝ) : EReal) = ((Real.tanh (1 / 2 * r) : ℝ) : EReal) from rfl, ← EReal.coe_mul, ← EReal.coe_add,
      Ideal.div, if_neg (by rw [← EReal.coe_zero, EReal.coe_eq_coe_iff]; exact hp.ne'), one_mul, ← EReal.coe_inv, EReal.coe_eq_coe_iff, Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = x at *
    generalize Real.exp (-(1 / 2 * r)) = y at *
    have h3 : 1 + y * y ≠ 0 := by positivity
    have h4 : x + y ≠ 0 := by positivity
    field_simp
    linear_combination (-2 * y) * h2

theorem post_37 (X : Valuation τ sig (Elt Ideal)) (r : Fin 16384) (l : Fin 1024) (o : Fin 128 → ℝ)
    (ho : ∀ j, cO X (ix4 ⟨r.val % 2048, by omega⟩ ⟨r.val / 2048, by omega⟩ ⟨l.val / 128, by omega⟩ j) = ((o j : ℝ) : EReal)) :
    (after hostOps0_1 X (Proc.devRef .tc main_v37) : FVec Ideal S16384x1024 .bf16) (ix2 r l)
      = Cert.KernelIdeal.Body.gated o ⟨l.val % 128, by omega⟩ ((X (Proc.devRef .tc main_arg6) : FVec Ideal S128 .f32) (ix1 ⟨l.val % 128, by omega⟩))
        ((X (Proc.devRef .tc main_v7) : FVec Ideal S2048x8x8x128 .f32) (ix4 ⟨r.val % 2048, by omega⟩ ⟨r.val / 2048, by omega⟩ ⟨l.val / 128, by omega⟩ ⟨l.val % 128, by omega⟩)) := by
  unfold Cert.KernelIdeal.Body.gated
  simp only [← ho, ← sigmoid]
  after_reads_simp
  pointwise
theorem post_39 (X : Valuation τ sig (Elt Ideal)) (b : Fin 8) (a : Fin 128) (l : Fin 1024) :
    (after hostOps0_1 X (Proc.devRef .tc main_v39) : FVec Ideal S8x128x1024 .f32) (ix3 b a l) = cS X (ix4 b ⟨l.val / 128, by omega⟩ a ⟨l.val % 128, by omega⟩) := by
  after_reads_simp
  pointwise

/-- A buffer that the operations before the loop do write, but none after, holds at the loop's end what it held at its entry. -/
theorem loop_keep (r : Ref sig .tc) (hc : r ∉ condOps_W)
    (b0 : r ∉ while0Ops0_W) (b1 : r ∉ while0Ops0_1_W) (b2 : r ∉ while0Ops0_2_W) (b3 : r ∉ while0Ops0_3_W) (b4 : r ∉ while0Ops0_4_W)
    (b5 : r ∉ while0Ops0_5_W) (b6 : r ∉ while0Ops0_6_W) (b7 : r ∉ while0Ops0_7_W) (k : ℕ) :
    after condOps (atK m k c) (Proc.devRef .tc r) = V0 m c (Proc.devRef .tc r) := by
  refine (after_of_writes_sub condOps _ condOps_writes hc).trans ?_
  induction k with
  | zero => rfl
  | succ k ih =>
    rw [show atK m (k + 1) c = afterL bodyI (after condOps (atK m k c)) from rfl]
    simp only [afterL_cons, afterL_nil]
    rw [after_of_writes_sub while0Ops0_7 _ while0Ops0_7_writes b7, after_of_writes_sub while0Ops0_6 _ while0Ops0_6_writes b6,
      after_of_writes_sub while0Ops0_5 _ while0Ops0_5_writes b5, after_of_writes_sub while0Ops0_4 _ while0Ops0_4_writes b4,
      after_of_writes_sub while0Ops0_3 _ while0Ops0_3_writes b3, after_of_writes_sub while0Ops0_2 _ while0Ops0_2_writes b2,
      after_of_writes_sub while0Ops0_1 _ while0Ops0_1_writes b1, after_of_writes_sub while0Ops0 _ while0Ops0_writes b0,
      after_of_writes_sub condOps _ condOps_writes hc, ih]
    rfl

theorem final_eq (j : Ref sig .tc) (hj : j ∈ carriedRefs) : after condOps (atK m 2048 c) (Proc.devRef .tc j) = STEP^[2048] (V0 m c) (Proc.devRef .tc j) :=
  (cond_keeps (atK m 2048 c) j hj).trans (atK_agree m c 2048 j hj)

include hm
/-- The reference's gated outputs, by the recurrence. -/
theorem R37_at (r : Fin 16384) (l : Fin 1024) : (finalContents condOps preI bodyI postI 2048 m c (Proc.devRef .tc main_v37) : FVec Ideal S16384x1024 .bf16) (ix2 r l)
    = Cert.KernelIdeal.Body.gated ((D.tok (2048 * (r.val / 2048)) (l.val / 128)).out (S (r.val / 2048) (l.val / 128)) (r.val % 2048)) ⟨l.val % 128, by omega⟩
      ((m ((c.tc : Thread nD τ).loc main_arg6) : FVec Ideal S128 .f32) (ix1 ⟨l.val % 128, by omega⟩)) ((m ((c.tc : Thread nD τ).loc main_arg4) : FVec Ideal S16384x1024 .f32) (ix2 r l)) := by
  have e7 : after condOps (atK m 2048 c) (Proc.devRef .tc main_v13_7) = STEP^[2048] (V0 m c) (Proc.devRef .tc main_v13_7) := final_eq m c main_v13_7 (by decide)
  refine (post_37 (after condOps (atK m 2048 c)) r l ((D.tok (2048 * (r.val / 2048)) (l.val / 128)).out (S (r.val / 2048) (l.val / 128)) (r.val % 2048)) ?_).trans ?_
  · intro j
    unfold cO
    rw [e7]
    exact (loop_at m c hm 2048 le_rfl).2 _ _ _ _ (Nat.mod_lt _ (by norm_num))
  · rw [loop_keep m c main_arg6 (by decide) (by decide) (by decide) (by decide) (by decide) (by decide) (by decide) (by decide) (by decide) 2048,
      loop_keep m c main_v7 (by decide) (by decide) (by decide) (by decide) (by decide) (by decide) (by decide) (by decide) (by decide) 2048, entry_z]
    have e6 : V0 m c (Proc.devRef .tc main_arg6) = m ((c.tc : Thread nD τ).loc main_arg6) := after_of_writes_sub hostOps0 _ hostOps0_writes (by decide)
    rw [e6]
    have a1 : 2048 * (r.val / 2048) + r.val % 2048 = r.val := by omega
    have a2 : 128 * (l.val / 128) + l.val % 128 = l.val := by omega
    simp only [a1, a2]
/-- The reference's final states, by the recurrence. -/
theorem R39_at (b : Fin 8) (a : Fin 128) (l : Fin 1024) : (finalContents condOps preI bodyI postI 2048 m c (Proc.devRef .tc main_v39) : FVec Ideal S8x128x1024 .f32) (ix3 b a l)
    = (((D.tok (2048 * b.val) (l.val / 128)).st (S b.val (l.val / 128)) 2048 a ⟨l.val % 128, by omega⟩ : ℝ) : EReal) := by
  have e6 : after condOps (atK m 2048 c) (Proc.devRef .tc main_v13_6) = STEP^[2048] (V0 m c) (Proc.devRef .tc main_v13_6) := final_eq m c main_v13_6 (by decide)
  refine (post_39 (after condOps (atK m 2048 c)) b a l).trans ?_
  unfold cS
  rw [e6]
  exact (loop_at m c hm 2048 le_rfl).1 _ _ _ _
end

end Cert.ReferenceIdeal.Value

namespace Cert.Proof
open Idealize.ShloMosaic Idealize.SL.Sem Idealize.ShloMosaic.Tactic

/-- An extended real whose magnitude compares below the infinity is a real. -/
theorem real_of_finite {s : Shape} (x : FVec Ideal s .f32) (h : Shape.BroadcastsInDim (⟨0, ![]⟩ : Shape) s ![])
    (e : cmpf .olt (Host.absf x) (broadcastInDim s ![] h (constant (F := Ideal) ⟨0, ![]⟩ .f32 0x7F800000#32)) = fun _ => 1#1) (i : s.Idx) :
    x i = (((x i : EReal).toReal : ℝ) : EReal) := by
  have e1 := congrFun e i
  pointwise at e1
  have hi : Ideal.ofBits FTy.f32 0x7F800000#32 = ⊤ := by
    have h2 : (2139095040 >>> 23) % 256 = 255 := by decide
    norm_num [Ideal.ofBits, Ideal.ieee, h2]
    clear h2 e1 e
    decide
  rw [hi] at e1
  have e2 : max (x i : EReal) (-(x i : EReal)) < ⊤ := by
    by_contra hn
    have : (decide ((FloatOps.absf (x i) : EReal) < ⊤)) = false := decide_eq_false hn
    rw [this] at e1
    exact absurd e1 (by decide)
  rw [max_lt_iff] at e2
  refine (EReal.coe_toReal e2.1.ne ?_).symm
  intro hb
  rw [hb] at e2
  exact absurd e2.2 (by simp)

/-- The values that a memory's argument arrays hold. -/
def rows (q k v : FVec Ideal (⟨2, ![16384, 1024]⟩ : Shape) .f32) (bg : FVec Ideal (⟨2, ![16384, 128]⟩ : Shape) .f32) : Cert.KernelIdeal.Body.Rows where
  q r l := if h : r < 16384 ∧ l < 1024 then (q (ix2 ⟨r, h.1⟩ ⟨l, h.2⟩) : EReal).toReal else 0
  k r l := if h : r < 16384 ∧ l < 1024 then (k (ix2 ⟨r, h.1⟩ ⟨l, h.2⟩) : EReal).toReal else 0
  v r l := if h : r < 16384 ∧ l < 1024 then (v (ix2 ⟨r, h.1⟩ ⟨l, h.2⟩) : EReal).toReal else 0
  bg r l := if h : r < 16384 ∧ l < 128 then (bg (ix2 ⟨r, h.1⟩ ⟨l, h.2⟩) : EReal).toReal else 0
/-- The initial states. -/
def states (s : FVec Ideal (⟨4, ![8, 8, 128, 128]⟩ : Shape) .f32) : ℕ → ℕ → Delta.State :=
  fun b n a j => if h : b < 8 ∧ n < 8 then (s (ix4 ⟨b, h.1⟩ ⟨n, h.2⟩ a j) : EReal).toReal else 0

/-- The precondition's side conditions. -/
theorem pre_facts : Cert.Pre_finite.Facts where
  bcast_S_S16384x1024 := ⟨fun a => a.elim0, fun a => a.elim0⟩
  bcast_S_S16384x128 := ⟨fun a => a.elim0, fun a => a.elim0⟩
  bcast_S_S8x8x128x128 := ⟨fun a => a.elim0, fun a => a.elim0⟩

/-- The kernel and the reference end with the same results. -/
theorem algebraic : Cert.algebraic_KernelIdeal_ReferenceIdeal_pre_finite (hKernelIdeal := Cert.KernelIdeal.Gen.facts) (hReferenceIdeal := Cert.ReferenceIdeal.Gen.facts) (hPre_finite := pre_facts) := by
  intro m g m' g' hp ha
  have hK : ∀ c, Cert.KernelIdeal.Body.Holds m c
      (rows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (states (m ((c.tc : Thread Cert.KernelIdeal.nD Cert.KernelIdeal.τ).loc Cert.KernelIdeal.main_arg5))) := by
    intro c
    obtain ⟨h0, h1, h2, h3, h5⟩ := hp c
    refine ⟨fun r l => ?_, fun r l => ?_, fun r l => ?_, fun r l => ?_, fun b n a j => ?_⟩
    · dsimp only [rows]
      rw [dif_pos ⟨r.isLt, l.isLt⟩]
      exact real_of_finite _ _ h0 (ix2 r l)
    · dsimp only [rows]
      rw [dif_pos ⟨r.isLt, l.isLt⟩]
      exact real_of_finite _ _ h1 (ix2 r l)
    · dsimp only [rows]
      rw [dif_pos ⟨r.isLt, l.isLt⟩]
      exact real_of_finite _ _ h2 (ix2 r l)
    · dsimp only [rows]
      rw [dif_pos ⟨r.isLt, l.isLt⟩]
      exact real_of_finite _ _ h3 (ix2 r l)
    · dsimp only [states]
      rw [dif_pos ⟨b.isLt, n.isLt⟩]
      exact real_of_finite _ _ h5 (ix4 b n a j)
  refine ⟨fun c => Cert.KernelIdeal.Value.G7 m c, fun c => Cert.KernelIdeal.Value.G8 m c, Cert.KernelIdeal.Value.run m g, ?_⟩
  refine (θ_run (Cert.ReferenceIdeal.defs (F := Ideal)) _ _).mono (fun r h c => ?_) (Cert.ReferenceIdeal.Value.run_fold m' g')
  obtain ⟨a0, a1, a2, a3, a4, a5, a6⟩ := ha c
  have hR := hK c
  have hm' : Cert.ReferenceIdeal.Value.Holds m' c
      (rows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (states (m ((c.tc : Thread Cert.KernelIdeal.nD Cert.KernelIdeal.τ).loc Cert.KernelIdeal.main_arg5))) :=
    ⟨fun i j => (congrFun a0 _).trans (hR.q i j), fun i j => (congrFun a1 _).trans (hR.k i j), fun i j => (congrFun a2 _).trans (hR.v i j),
      fun i j => (congrFun a3 _).trans (hR.bg i j), fun b n a j => (congrFun a5 _).trans (hR.s b n a j)⟩
  obtain ⟨k0, k1, k2, k3, k4, k5, k6⟩ := Cert.ReferenceIdeal.Value.args_keep m' c
  refine ⟨(h c _ rfl).trans ?_, (h c _ rfl).trans ?_, (h c _ rfl).trans k0, (h c _ rfl).trans k1, (h c _ rfl).trans k2, (h c _ rfl).trans k3, (h c _ rfl).trans k4, (h c _ rfl).trans k5, (h c _ rfl).trans k6⟩
  · funext i
    obtain ⟨r, l, rfl⟩ : ∃ (r : Fin 16384) (l : Fin 1024), i = ix2 r l := ⟨i 0, i 1, by funext a; fin_cases a <;> rfl⟩
    refine (Cert.ReferenceIdeal.Value.R37_at m' c hm' r l).trans ?_
    rw [a4, a6]
    exact (Cert.KernelIdeal.Body.G7_at m c hR r l).symm
  · funext i
    obtain ⟨b, a, l, rfl⟩ : ∃ (b : Fin 8) (a : Fin 128) (l : Fin 1024), i = ix3 b a l := ⟨i 0, i 1, i 2, by funext a; fin_cases a <;> rfl⟩
    exact (Cert.ReferenceIdeal.Value.R39_at m' c hm' b a l).trans (Cert.KernelIdeal.Body.G8_at m c hR b a l).symm

end Cert.Proof
-- ==== Proof.Out.lean ====
module

public import proofs.«01_k».proof.Proof.Gen.Kernel2Ideal.Skeleton
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Kernel2Ideal.Out
open Cert.Kernel2Ideal Cert.Kernel2Ideal.Gen

/-- What one row of the call reads: its two halves of the attention, the residual, the gate, the shift and the scale. -/
structure Row where
  oa : Fin 1024 → EReal
  od : Fin 1024 → EReal
  x : Fin 2048 → EReal
  g : Fin 2048 → EReal
  sh : Fin 2048 → EReal
  sc : Fin 2048 → EReal

/-- The row's residual plus its gated projection. -/
def Row.x1 (R : Row) (w : Fin 2048 → Fin 2048 → EReal) (j : Fin 2048) : EReal :=
  R.x j + R.g j * ((∑ k : Fin 1024, R.oa k * w ⟨k.val, by omega⟩ j) + ∑ k : Fin 1024, R.od k * w ⟨1024 + k.val, by omega⟩ j)
/-- The row's modulated norm. -/
def Row.h2 (R : Row) (w : Fin 2048 → Fin 2048 → EReal) (nw : Fin 2048 → EReal) (j : Fin 2048) : EReal :=
  R.x1 w j * Ideal.rsqrt (Ideal.div (∑ k : Fin 2048, R.x1 w k * R.x1 w k) (Ideal.ofBits FTy.f32 0x45000000#32) + Ideal.ofBits FTy.f32 0x358637BD#32) * nw j
    * (1 + R.sc j) + R.sh j

/-- Row `i` of a prompt tile. -/
def tileA (x0 x1 : Vec Ideal S256x1024 .bf16) (x2 : Vec Ideal S256x2048 .f32) (x3 x4 x5 : Vec Ideal S1x1x2048 .f32) (i : Fin 256) : Row :=
  ⟨fun k => x0 (ix2 i k), fun k => x1 (ix2 i k), fun j => x2 (ix2 i j), fun j => x3 (ix3 0 0 j), fun j => x4 (ix3 0 0 j), fun j => x5 (ix3 0 0 j)⟩
/-- Row `i` of a sample tile. -/
def tileB (x0 x1 : Vec Ideal S256x1024 .bf16) (x2 : Vec Ideal S256x2048 .f32) (x3 x4 x5 : Vec Ideal S1x256x2048 .f32) (i : Fin 256) : Row :=
  ⟨fun k => x0 (ix2 i k), fun k => x1 (ix2 i k), fun j => x2 (ix2 i j), fun j => x3 (ix3 0 i j), fun j => x4 (ix3 0 i j), fun j => x5 (ix3 0 i j)⟩
/-- A block's entries by its two coordinates. -/
def ent (x : Vec Ideal S2048x2048 .bf16) : Fin 2048 → Fin 2048 → EReal := fun a b => x (ix2 a b)
/-- The one row of a block. -/
def ent1 (x : Vec Ideal S1x2048 .f32) : Fin 2048 → EReal := fun b => x (ix2 0 b)
/-- The upper and lower halves of the weight. -/
def top (x : Vec Ideal S2048x2048 .bf16) : Vec Ideal S1024x2048 .bf16 := fun y => x (ix2 ⟨(y 0).val, by have := (y 0).isLt; simp at this; omega⟩ (y 1))
def bot (x : Vec Ideal S2048x2048 .bf16) : Vec Ideal S1024x2048 .bf16 := fun y => x (ix2 ⟨1024 + (y 0).val, by have := (y 0).isLt; simp at this; omega⟩ (y 1))

section
variable (x0 x1 : Vec Ideal S256x1024 .bf16) (x2 : Vec Ideal S256x2048 .f32) (w : Vec Ideal S2048x2048 .bf16) (nw : Vec Ideal S1x2048 .f32)

theorem pay5_at (x3 x4 x5 : Vec Ideal S1x1x2048 .f32) (i : Fin 256) (j : Fin 2048) :
    k0_pay5 x0 (top w) x1 (bot w) x2 x3 (ix2 i j) = (tileA x0 x1 x2 x3 x4 x5 i).x1 (ent w) j := by
  pointwise [k0_pay5]
  rfl
theorem pay1_at (x3 x4 x5 : Vec Ideal S1x1x2048 .f32) (i : Fin 256) (j : Fin 2048) :
    k0_pay1 (k0_pay6 x0 (top w) x1 (bot w) x2 x3 nw) (k0_pay7 x5) x4 (ix2 i j) = (tileA x0 x1 x2 x3 x4 x5 i).h2 (ent w) (ent1 nw) j := by
  pointwise [k0_pay1, k0_pay6, k0_pay7]
  simp only [pay5_at x0 x1 x2 w x3 x4 x5]
  rfl
theorem pay8_at (x3 x4 x5 : Vec Ideal S1x256x2048 .f32) (i : Fin 256) (j : Fin 2048) :
    k0_pay8 x0 (top w) x1 (bot w) x2 x3 (ix2 i j) = (tileB x0 x1 x2 x3 x4 x5 i).x1 (ent w) j := by
  pointwise [k0_pay8]
  rfl
theorem pay3_at (x3 x4 x5 : Vec Ideal S1x256x2048 .f32) (i : Fin 256) (j : Fin 2048) :
    k0_pay3 (k0_pay9 x0 (top w) x1 (bot w) x2 x3 nw x5) x4 (ix2 i j) = (tileB x0 x1 x2 x3 x4 x5 i).h2 (ent w) (ent1 nw) j := by
  pointwise [k0_pay3, k0_pay9]
  simp only [pay8_at x0 x1 x2 w x3 x4 x5]
  rfl
end

/-! ## The two results by rows -/

section
variable (a0 a1 : Vec Ideal S16384x1024 .bf16) (a2 : Vec Ideal S16384x2048 .f32) (a3 a4 a5 : Vec Ideal S8x1x2048 .f32)
  (a6 a7 : Vec Ideal S512x1024 .bf16) (a8 : Vec Ideal S512x2048 .f32) (a9 a10 a11 : Vec Ideal S2x256x2048 .f32)
  (a12 : Vec Ideal S2048 .f32) (a13 : Vec Ideal S2048x2048 .bf16)

/-- A prompt row. -/
def rowA (r : Fin 16384) : Row :=
  ⟨fun k => a0 (ix2 r k), fun k => a1 (ix2 r k), fun j => a2 (ix2 r j), fun j => a3 (ix3 ⟨r.val / 2048, by omega⟩ 0 j),
    fun j => a4 (ix3 ⟨r.val / 2048, by omega⟩ 0 j), fun j => a5 (ix3 ⟨r.val / 2048, by omega⟩ 0 j)⟩
/-- A sample row. -/
def rowB (r : Fin 512) : Row :=
  ⟨fun k => a6 (ix2 r k), fun k => a7 (ix2 r k), fun j => a8 (ix2 r j), fun j => a9 (ix3 ⟨r.val / 256, by omega⟩ ⟨r.val % 256, by omega⟩ j),
    fun j => a10 (ix3 ⟨r.val / 256, by omega⟩ ⟨r.val % 256, by omega⟩ j), fun j => a11 (ix3 ⟨r.val / 256, by omega⟩ ⟨r.val % 256, by omega⟩ j)⟩
/-- A row of the call: the prompt rows, then the sample rows. -/
def row (r : Fin 16896) : Row :=
  if h : r.val < 16384 then rowA a0 a1 a2 a3 a4 a5 ⟨r.val, h⟩ else rowB a6 a7 a8 a9 a10 a11 ⟨r.val - 16384, by omega⟩
/-- The norm's weight. -/
def nrm : Fin 2048 → EReal := fun b => a12 (ix1 b)

/-- The new residual. -/
def G1 : Vec Ideal S16896x2048 .f32 := fun i => (row a0 a1 a2 a3 a4 a5 a6 a7 a8 a9 a10 a11 (i 0)).x1 (ent a13) (i 1)
/-- The modulated norm. -/
def G2 : Vec Ideal S16896x2048 .f32 := fun i => (row a0 a1 a2 a3 a4 a5 a6 a7 a8 a9 a10 a11 (i 0)).h2 (ent a13) (nrm a12) (i 1)
end

end Cert.Kernel2Ideal.Out
end
-- ==== Proof.OutRef.lean ====
module

public import proofs.«01_k».proof.Proof.Out
public import proofs.«01_k».proof.Proof.Gen.Reference2Ideal.Run

@[expose] public section

set_option maxRecDepth 16384

noncomputable section

open Idealize.ShloMosaic Idealize.ShloMosaic.TcCoe Idealize.SL.Sem

namespace Cert.Reference2Ideal.Out
open Cert.Reference2Ideal Cert.Reference2Ideal.Gen Cert.Reference2Ideal.Value
open Cert.Kernel2Ideal.Out (Row rowA rowB row nrm ent G1 G2)

/-- A sum over a row's two halves. -/
theorem sum_halves (oa od : Fin 1024 → EReal) (w : Fin 2048 → EReal) :
    (∑ k : Fin 2048, (if h : k.val < 1024 then oa ⟨k.val, h⟩ else od ⟨k.val - 1024, by omega⟩) * w k)
      = (∑ k : Fin 1024, oa k * w ⟨k.val, by omega⟩) + ∑ k : Fin 1024, od k * w ⟨1024 + k.val, by omega⟩ := by
  rw [show (∑ k : Fin 2048, (if h : k.val < 1024 then oa ⟨k.val, h⟩ else od ⟨k.val - 1024, by omega⟩) * w k)
    = ∑ k : Fin (1024 + 1024), (if h : k.val < 1024 then oa ⟨k.val, h⟩ else od ⟨k.val - 1024, by omega⟩) * w k from rfl, Fin.sum_univ_add]
  congr 1

/-- The two halves of the attention, side by side: the prompt's … -/
def P3 (a0 a1 : FVec Ideal S16384x1024 .bf16) : FVec Ideal S8x2048x2048 .bf16 := concatenate S8x2048x2048 2 [⟨S8x2048x1024, (shapeCast _ a0 shapeCasts_S16384x1024_S8x2048x1024)⟩, ⟨S8x2048x1024, (shapeCast _ a1 shapeCasts_S16384x1024_S8x2048x1024)⟩] concatenates_S8x2048x1024_S8x2048x1024_S8x2048x2048_d2
/-- … and the samples'. -/
def Q34 (a6 a7 : FVec Ideal S512x1024 .bf16) : FVec Ideal S512x2048 .bf16 := concatenate S512x2048 1 [⟨S512x1024, a6⟩, ⟨S512x1024, a7⟩] concatenates_S512x1024_S512x1024_S512x2048_d1

/-- The prompt's new residual … -/
def P9 (a0 a1 : FVec Ideal S16384x1024 .bf16) (a2 : FVec Ideal S16384x2048 .f32) (a3 : FVec Ideal S8x1x2048 .f32) (a13 : FVec Ideal S2048x2048 .bf16) : FVec Ideal S8x2048x2048 .f32 := (addf (shapeCast _ a2 shapeCasts_S16384x2048_S8x2048x2048) (mulf (broadcastInDim S8x2048x2048 ![0, 1, 2] bcast_S8x1x2048_S8x2048x2048_0_1_2 a3) (Host.dotGeneral dot_S8x2048x2048_S2048x2048_S8x2048x2048_2_0_01_1_n_n none (extf .f32 (P3 a0 a1) bitsLt_bf16_f32) (extf .f32 a13 bitsLt_bf16_f32))))
/-- … and the samples'. -/
def Q39 (a6 a7 : FVec Ideal S512x1024 .bf16) (a8 : FVec Ideal S512x2048 .f32) (a9 : FVec Ideal S2x256x2048 .f32) (a13 : FVec Ideal S2048x2048 .bf16) : FVec Ideal S512x2048 .f32 := (addf a8 (mulf (shapeCast _ a9 shapeCasts_S2x256x2048_S512x2048) (Host.dotGeneral dot_S512x2048_S2048x2048_S512x2048_1_0_0_1_n_n none (extf .f32 (Q34 a6 a7) bitsLt_bf16_f32) (extf .f32 a13 bitsLt_bf16_f32))))
/-- The prompt's modulated norm … -/
def P29 (a0 a1 : FVec Ideal S16384x1024 .bf16) (a2 : FVec Ideal S16384x2048 .f32) (a3 a4 a5 : FVec Ideal S8x1x2048 .f32) (a12 : FVec Ideal S2048 .f32) (a13 : FVec Ideal S2048x2048 .bf16) : FVec Ideal S8x2048x2048 .f32 := (addf (mulf (mulf (mulf (P9 a0 a1 a2 a3 a13) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (P9 a0 a1 a2 a3 a13) (P9 a0 a1 a2 a3 a13)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a12))) (broadcastInDim S8x2048x2048 ![0, 1, 2] bcast_S8x1x2048_S8x2048x2048_0_1_2 (addf (broadcastInDim S8x1x2048 ![] bcast_S_S8x1x2048 (constant S_ .f32 0x3F800000#32)) a5))) (broadcastInDim S8x2048x2048 ![0, 1, 2] bcast_S8x1x2048_S8x2048x2048_0_1_2 a4))
/-- … and the samples'. -/
def Q56 (a6 a7 : FVec Ideal S512x1024 .bf16) (a8 : FVec Ideal S512x2048 .f32) (a9 a10 a11 : FVec Ideal S2x256x2048 .f32) (a12 : FVec Ideal S2048 .f32) (a13 : FVec Ideal S2048x2048 .bf16) : FVec Ideal S512x2048 .f32 := (addf (mulf (mulf (mulf (Q39 a6 a7 a8 a9 a13) (broadcastInDim S512x2048 ![0, 1] bcast_S512x1_S512x2048_0_1 (Host.rsqrt (addf (Host.divf (broadcastInDim S512x1 ![0] bcast_S512_S512x1_0 (Host.reduceAdd (mulf (Q39 a6 a7 a8 a9 a13) (Q39 a6 a7 a8 a9 a13)) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 a12))) (addf (broadcastInDim S512x2048 ![] bcast_S_S512x2048 (constant S_ .f32 0x3F800000#32)) (shapeCast _ a11 shapeCasts_S2x256x2048_S512x2048))) (shapeCast _ a10 shapeCasts_S2x256x2048_S512x2048))
/-- The first result. -/
def res57 (a0 a1 : FVec Ideal S16384x1024 .bf16) (a2 : FVec Ideal S16384x2048 .f32) (a3 a4 a5 : FVec Ideal S8x1x2048 .f32) (a6 a7 : FVec Ideal S512x1024 .bf16) (a8 : FVec Ideal S512x2048 .f32) (a9 a10 a11 : FVec Ideal S2x256x2048 .f32) (a12 : FVec Ideal S2048 .f32) (a13 : FVec Ideal S2048x2048 .bf16) : FVec Ideal S16896x2048 .f32 := concatenate S16896x2048 0 [⟨S16384x2048, (shapeCast S16384x2048 (P9 a0 a1 a2 a3 a13) shapeCasts_S8x2048x2048_S16384x2048)⟩, ⟨S512x2048, Q39 a6 a7 a8 a9 a13⟩]  concatenates_S16384x2048_S512x2048_S16896x2048_d0
/-- The second result. -/
def res58 (a0 a1 : FVec Ideal S16384x1024 .bf16) (a2 : FVec Ideal S16384x2048 .f32) (a3 a4 a5 : FVec Ideal S8x1x2048 .f32) (a6 a7 : FVec Ideal S512x1024 .bf16) (a8 : FVec Ideal S512x2048 .f32) (a9 a10 a11 : FVec Ideal S2x256x2048 .f32) (a12 : FVec Ideal S2048 .f32) (a13 : FVec Ideal S2048x2048 .bf16) : FVec Ideal S16896x2048 .f32 := concatenate S16896x2048 0 [⟨S16384x2048, (shapeCast S16384x2048 (P29 a0 a1 a2 a3 a4 a5 a12 a13) shapeCasts_S8x2048x2048_S16384x2048)⟩, ⟨S512x2048, Q56 a6 a7 a8 a9 a10 a11 a12 a13⟩]  concatenates_S16384x2048_S512x2048_S16896x2048_d0

variable (a0 a1 : FVec Ideal S16384x1024 .bf16) (a2 : FVec Ideal S16384x2048 .f32) (a3 a4 a5 : FVec Ideal S8x1x2048 .f32) (a6 a7 : FVec Ideal S512x1024 .bf16) (a8 : FVec Ideal S512x2048 .f32) (a9 a10 a11 : FVec Ideal S2x256x2048 .f32) (a12 : FVec Ideal S2048 .f32) (a13 : FVec Ideal S2048x2048 .bf16)

theorem P3_at (b : Fin 8) (t : Fin 2048) (k : Fin 2048) : P3 a0 a1 (ix3 b t k)
    = if h : k.val < 1024 then a0 (ix2 ⟨2048 * b.val + t.val, by omega⟩ ⟨k.val, h⟩) else a1 (ix2 ⟨2048 * b.val + t.val, by omega⟩ ⟨k.val - 1024, by omega⟩) := by
  pointwise [P3]
  simp only [Nat.mul_comm b.val 2048]
theorem Q34_at (r : Fin 512) (k : Fin 2048) : Q34 a6 a7 (ix2 r k)
    = if h : k.val < 1024 then a6 (ix2 r ⟨k.val, h⟩) else a7 (ix2 r ⟨k.val - 1024, by omega⟩) := by
  pointwise [Q34]
theorem row0 (b : Fin 8) (t : Fin 2048) : rowA a0 a1 a2 a3 a4 a5 ⟨2048 * b.val + t.val, by omega⟩
    = ⟨fun k => a0 (ix2 ⟨2048 * b.val + t.val, by omega⟩ k), fun k => a1 (ix2 ⟨2048 * b.val + t.val, by omega⟩ k), fun j => a2 (ix2 ⟨2048 * b.val + t.val, by omega⟩ j),
      fun j => a3 (ix3 b 0 j), fun j => a4 (ix3 b 0 j), fun j => a5 (ix3 b 0 j)⟩ := by
  have e : (⟨(2048 * b.val + t.val) / 2048, by omega⟩ : Fin 8) = b := Fin.ext (by dsimp only; omega)
  unfold rowA
  simp only [e]
theorem P9_at (b : Fin 8) (t : Fin 2048) (j : Fin 2048) : P9 a0 a1 a2 a3 a13 (ix3 b t j) = (rowA a0 a1 a2 a3 a4 a5 ⟨2048 * b.val + t.val, by omega⟩).x1 (ent a13) j := by
  rw [row0]
  pointwise [P9]
  simp only [P3_at, Nat.mul_comm b.val 2048]
  exact congrArg (fun z => a2 (ix2 ⟨2048 * b.val + t.val, by omega⟩ j) + a3 (ix3 b 0 j) * z)
    (sum_halves (fun k => a0 (ix2 ⟨2048 * b.val + t.val, by omega⟩ k)) (fun k => a1 (ix2 ⟨2048 * b.val + t.val, by omega⟩ k)) (fun k => a13 (ix2 k j)))
theorem Q39_at (r : Fin 512) (j : Fin 2048) : Q39 a6 a7 a8 a9 a13 (ix2 r j) = (rowB a6 a7 a8 a9 a10 a11 r).x1 (ent a13) j := by
  pointwise [Q39]
  simp only [Q34_at]
  exact congrArg (fun z => a8 (ix2 r j) + a9 (ix3 ⟨r.val / 256, by omega⟩ ⟨r.val % 256, by omega⟩ j) * z)
    (sum_halves (fun k => a6 (ix2 r k)) (fun k => a7 (ix2 r k)) (fun k => a13 (ix2 k j)))
theorem P29_at (b : Fin 8) (t : Fin 2048) (j : Fin 2048) : P29 a0 a1 a2 a3 a4 a5 a12 a13 (ix3 b t j) = (rowA a0 a1 a2 a3 a4 a5 ⟨2048 * b.val + t.val, by omega⟩).h2 (ent a13) (nrm a12) j := by
  pointwise [P29]
  simp only [P9_at a0 a1 a2 a3 a4 a5 a13]
  rw [row0]
  rfl
theorem Q56_at (r : Fin 512) (j : Fin 2048) : Q56 a6 a7 a8 a9 a10 a11 a12 a13 (ix2 r j) = (rowB a6 a7 a8 a9 a10 a11 r).h2 (ent a13) (nrm a12) j := by
  pointwise [Q56]
  simp only [Q39_at a6 a7 a8 a9 a10 a11 a13]
  rfl
theorem res57_at (r : Fin 16896) (j : Fin 2048) : res57 a0 a1 a2 a3 a4 a5 a6 a7 a8 a9 a10 a11 a12 a13 (ix2 r j)
    = if h : r.val < 16384 then P9 a0 a1 a2 a3 a13 (ix3 ⟨r.val / 2048, by omega⟩ ⟨r.val % 2048, by omega⟩ j) else Q39 a6 a7 a8 a9 a13 (ix2 ⟨r.val - 16384, by omega⟩ j) := by
  pointwise [res57]
theorem res58_at (r : Fin 16896) (j : Fin 2048) : res58 a0 a1 a2 a3 a4 a5 a6 a7 a8 a9 a10 a11 a12 a13 (ix2 r j)
    = if h : r.val < 16384 then P29 a0 a1 a2 a3 a4 a5 a12 a13 (ix3 ⟨r.val / 2048, by omega⟩ ⟨r.val % 2048, by omega⟩ j) else Q56 a6 a7 a8 a9 a10 a11 a12 a13 (ix2 ⟨r.val - 16384, by omega⟩ j) := by
  pointwise [res58]
theorem res57_eq : res57 a0 a1 a2 a3 a4 a5 a6 a7 a8 a9 a10 a11 a12 a13 = G1 a0 a1 a2 a3 a4 a5 a6 a7 a8 a9 a10 a11 a13 := by
  funext i
  obtain ⟨r, l, rfl⟩ : ∃ (r : Fin 16896) (l : Fin 2048), i = ix2 r l := ⟨i 0, i 1, by funext a; fin_cases a <;> rfl⟩
  rw [res57_at]
  show _ = (row a0 a1 a2 a3 a4 a5 a6 a7 a8 a9 a10 a11 r).x1 (ent a13) l
  unfold row
  split_ifs with h
  · refine (P9_at a0 a1 a2 a3 a4 a5 a13 _ _ _).trans ?_
    congr 2
    exact Fin.ext (by dsimp only; omega)
  · exact Q39_at a6 a7 a8 a9 a10 a11 a13 _ _
theorem res58_eq : res58 a0 a1 a2 a3 a4 a5 a6 a7 a8 a9 a10 a11 a12 a13 = G2 a0 a1 a2 a3 a4 a5 a6 a7 a8 a9 a10 a11 a12 a13 := by
  funext i
  obtain ⟨r, l, rfl⟩ : ∃ (r : Fin 16896) (l : Fin 2048), i = ix2 r l := ⟨i 0, i 1, by funext a; fin_cases a <;> rfl⟩
  rw [res58_at]
  show _ = (row a0 a1 a2 a3 a4 a5 a6 a7 a8 a9 a10 a11 r).h2 (ent a13) (nrm a12) l
  unfold row
  split_ifs with h
  · refine (P29_at a0 a1 a2 a3 a4 a5 a12 a13 _ _ _).trans ?_
    congr 2
    exact Fin.ext (by dsimp only; omega)
  · exact Q56_at a6 a7 a8 a9 a10 a11 a12 a13 _ _

end Cert.Reference2Ideal.Out
end
-- ==== Proof.OutK.lean ====
module

public import proofs.«01_k».proof.Proof.Out
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Out
open Cert.Kernel2Ideal Cert.Kernel2Ideal.Gen Cert.Kernel2Ideal.Value

/-! ## What each case stores -/

theorem ld_top (x : Vec Ideal S2048x2048 .bf16) (h) : View.ld x (Rect.unit (s := S2048x2048) ![0, 0] ![1024, 2048] h) = top x := by
  funext y
  refine congrArg x (funext fun a => Fin.ext ?_)
  match a with
  | ⟨0, _⟩ => show 0 + 1 * (y 0).val = (y 0).val; omega
  | ⟨1, _⟩ => show 0 + 1 * (y 1).val = (y 1).val; omega
theorem ld_bot (x : Vec Ideal S2048x2048 .bf16) (h) : View.ld x (Rect.unit (s := S2048x2048) ![1024, 0] ![1024, 2048] h) = bot x := by
  funext y
  refine congrArg x (funext fun a => Fin.ext ?_)
  match a with
  | ⟨0, _⟩ => show 1024 + 1 * (y 0).val = 1024 + (y 0).val; omega
  | ⟨1, _⟩ => show 0 + 1 * (y 1).val = (y 1).val; omega

section
variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x2048 .f32) (harg9 : arg9.IsWhole) (arg10 : Memref sig .tc .vmem S1x256x2048 .f32) (harg10 : arg10.IsWhole) (arg11 : Memref sig .tc .vmem S1x256x2048 .f32) (harg11 : arg11.IsWhole) (arg12 : Memref sig .tc .vmem S1x256x2048 .f32) (harg12 : arg12.IsWhole) (arg13 : Memref sig .tc .vmem S1x2048 .f32) (harg13 : arg13.IsWhole) (arg14 : Memref sig .tc .vmem S2048x2048 .bf16) (harg14 : arg14.IsWhole) (arg15 : Memref sig .tc .vmem S2048x256 .bf16) (harg15 : arg15.IsWhole) (arg16 : Memref sig .tc .vmem S1x128 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x128 .f32) (harg19 : arg19.IsWhole)
  (x0 : Vec Ideal S256x1024 .bf16) (x1 : Vec Ideal S256x1024 .bf16) (x2 : Vec Ideal S256x2048 .f32) (x3 : Vec Ideal S1x1x2048 .f32) (x4 : Vec Ideal S1x1x2048 .f32) (x5 : Vec Ideal S1x1x2048 .f32) (x6 : Vec Ideal S256x1024 .bf16) (x7 : Vec Ideal S256x1024 .bf16) (x8 : Vec Ideal S256x2048 .f32) (x9 : Vec Ideal S1x256x2048 .f32) (x10 : Vec Ideal S1x256x2048 .f32) (x11 : Vec Ideal S1x256x2048 .f32) (x12 : Vec Ideal S1x2048 .f32) (x13 : Vec Ideal S2048x2048 .bf16) (x14 : Vec Ideal S2048x256 .bf16) (x15 : Vec Ideal S1x128 .f32)

set_option maxHeartbeats 0 in
theorem o16_A (hc0 : cond0_0 i) (hc1 : ¬cond0_1 i) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15
    = k0_pay5 x0 (top x13) x1 (bot x13) x2 x3 := by
  unfold out0_A_16
  funext y
  frame_open
  have e0 := Memref.IsWhole.read_unread (Val := Elt Ideal) harg1 x0
  generalize harg1.unread x0 = w0 at *
  subst e0
  have e1 := Memref.IsWhole.read_unread (Val := Elt Ideal) harg2 x1
  generalize harg2.unread x1 = w1 at *
  subst e1
  have e2 := Memref.IsWhole.read_unread (Val := Elt Ideal) harg3 x2
  generalize harg3.unread x2 = w2 at *
  subst e2
  have e3 := Memref.IsWhole.read_unread (Val := Elt Ideal) harg4 x3
  generalize harg4.unread x3 = w3 at *
  subst e3
  have e4 := Memref.IsWhole.read_unread (Val := Elt Ideal) harg5 x4
  generalize harg5.unread x4 = w4 at *
  subst e4
  have e5 := Memref.IsWhole.read_unread (Val := Elt Ideal) harg6 x5
  generalize harg6.unread x5 = w5 at *
  subst e5
  have e6 := Memref.IsWhole.read_unread (Val := Elt Ideal) harg7 x6
  generalize harg7.unread x6 = w6 at *
  subst e6
  have e7 := Memref.IsWhole.read_unread (Val := Elt Ideal) harg8 x7
  generalize harg8.unread x7 = w7 at *
  subst e7
  have e8 := Memref.IsWhole.read_unread (Val := Elt Ideal) harg9 x8
  generalize harg9.unread x8 = w8 at *
  subst e8
  have e9 := Memref.IsWhole.read_unread (Val := Elt Ideal) harg10 x9
  generalize harg10.unread x9 = w9 at *
  subst e9
  have e10 := Memref.IsWhole.read_unread (Val := Elt Ideal) harg11 x10
  generalize harg11.unread x10 = w10 at *
  subst e10
  have e11 := Memref.IsWhole.read_unread (Val := Elt Ideal) harg12 x11
  generalize harg12.unread x11 = w11 at *
  subst e11
  have e12 := Memref.IsWhole.read_unread (Val := Elt Ideal) harg13 x12
  generalize harg13.unread x12 = w12 at *
  subst e12
  have e13 := Memref.IsWhole.read_unread (Val := Elt Ideal) harg14 x13
  generalize harg14.unread x13 = w13 at *
  subst e13
  have e14 := Memref.IsWhole.read_unread (Val := Elt Ideal) harg15 x14
  generalize harg15.unread x14 = w14 at *
  subst e14
  have e15 := Memref.IsWhole.read_unread (Val := Elt Ideal) harg16 x15
  generalize harg16.unread x15 = w15 at *
  subst e15
  frame_out
  erw [ld_top, ld_bot]
set_option maxHeartbeats 0 in
theorem o17_A (hc0 : cond0_0 i) (hc1 : ¬cond0_1 i) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15
    = k0_pay1 (k0_pay6 x0 (top x13) x1 (bot x13) x2 x3 x12) (k0_pay7 x5) x4 := by
  unfold out0_A_17
  funext y
  frame_open
  have e0 := Memref.IsWhole.read_unread (Val := Elt Ideal) harg1 x0
  generalize harg1.unread x0 = w0 at *
  subst e0
  have e1 := Memref.IsWhole.read_unread (Val := Elt Ideal) harg2 x1
  generalize harg2.unread x1 = w1 at *
  subst e1
  have e2 := Memref.IsWhole.read_unread (Val := Elt Ideal) harg3 x2
  generalize harg3.unread x2 = w2 at *
  subst e2
  have e3 := Memref.IsWhole.read_unread (Val := Elt Ideal) harg4 x3
  generalize harg4.unread x3 = w3 at *
  subst e3
  have e4 := Memref.IsWhole.read_unread (Val := Elt Ideal) harg5 x4
  generalize harg5.unread x4 = w4 at *
  subst e4
  have e5 := Memref.IsWhole.read_unread (Val := Elt Ideal) harg6 x5
  generalize harg6.unread x5 = w5 at *
  subst e5
  have e6 := Memref.IsWhole.read_unread (Val := Elt Ideal) harg7 x6
  generalize harg7.unread x6 = w6 at *
  subst e6
  have e7 := Memref.IsWhole.read_unread (Val := Elt Ideal) harg8 x7
  generalize harg8.unread x7 = w7 at *
  subst e7
  have e8 := Memref.IsWhole.read_unread (Val := Elt Ideal) harg9 x8
  generalize harg9.unread x8 = w8 at *
  subst e8
  have e9 := Memref.IsWhole.read_unread (Val := Elt Ideal) harg10 x9
  generalize harg10.unread x9 = w9 at *
  subst e9
  have e10 := Memref.IsWhole.read_unread (Val := Elt Ideal) harg11 x10
  generalize harg11.unread x10 = w10 at *
  subst e10
  have e11 := Memref.IsWhole.read_unread (Val := Elt Ideal) harg12 x11
  generalize harg12.unread x11 = w11 at *
  subst e11
  have e12 := Memref.IsWhole.read_unread (Val := Elt Ideal) harg13 x12
  generalize harg13.unread x12 = w12 at *
  subst e12
  have e13 := Memref.IsWhole.read_unread (Val := Elt Ideal) harg14 x13
  generalize harg14.unread x13 = w13 at *
  subst e13
  have e14 := Memref.IsWhole.read_unread (Val := Elt Ideal) harg15 x14
  generalize harg15.unread x14 = w14 at *
  subst e14
  have e15 := Memref.IsWhole.read_unread (Val := Elt Ideal) harg16 x15
  generalize harg16.unread x15 = w15 at *
  subst e15
  frame_out
  erw [ld_top, ld_bot]
set_option maxHeartbeats 0 in
theorem o16_B (hc0 : ¬cond0_0 i) (hc1 : cond0_1 i) : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15
    = k0_pay8 x6 (top x13) x7 (bot x13) x8 x9 := by
  unfold out0_B_16
  funext y
  frame_open
  have e0 := Memref.IsWhole.read_unread (Val := Elt Ideal) harg1 x0
  generalize harg1.unread x0 = w0 at *
  subst e0
  have e1 := Memref.IsWhole.read_unread (Val := Elt Ideal) harg2 x1
  generalize harg2.unread x1 = w1 at *
  subst e1
  have e2 := Memref.IsWhole.read_unread (Val := Elt Ideal) harg3 x2
  generalize harg3.unread x2 = w2 at *
  subst e2
  have e3 := Memref.IsWhole.read_unread (Val := Elt Ideal) harg4 x3
  generalize harg4.unread x3 = w3 at *
  subst e3
  have e4 := Memref.IsWhole.read_unread (Val := Elt Ideal) harg5 x4
  generalize harg5.unread x4 = w4 at *
  subst e4
  have e5 := Memref.IsWhole.read_unread (Val := Elt Ideal) harg6 x5
  generalize harg6.unread x5 = w5 at *
  subst e5
  have e6 := Memref.IsWhole.read_unread (Val := Elt Ideal) harg7 x6
  generalize harg7.unread x6 = w6 at *
  subst e6
  have e7 := Memref.IsWhole.read_unread (Val := Elt Ideal) harg8 x7
  generalize harg8.unread x7 = w7 at *
  subst e7
  have e8 := Memref.IsWhole.read_unread (Val := Elt Ideal) harg9 x8
  generalize harg9.unread x8 = w8 at *
  subst e8
  have e9 := Memref.IsWhole.read_unread (Val := Elt Ideal) harg10 x9
  generalize harg10.unread x9 = w9 at *
  subst e9
  have e10 := Memref.IsWhole.read_unread (Val := Elt Ideal) harg11 x10
  generalize harg11.unread x10 = w10 at *
  subst e10
  have e11 := Memref.IsWhole.read_unread (Val := Elt Ideal) harg12 x11
  generalize harg12.unread x11 = w11 at *
  subst e11
  have e12 := Memref.IsWhole.read_unread (Val := Elt Ideal) harg13 x12
  generalize harg13.unread x12 = w12 at *
  subst e12
  have e13 := Memref.IsWhole.read_unread (Val := Elt Ideal) harg14 x13
  generalize harg14.unread x13 = w13 at *
  subst e13
  have e14 := Memref.IsWhole.read_unread (Val := Elt Ideal) harg15 x14
  generalize harg15.unread x14 = w14 at *
  subst e14
  have e15 := Memref.IsWhole.read_unread (Val := Elt Ideal) harg16 x15
  generalize harg16.unread x15 = w15 at *
  subst e15
  frame_out
  erw [ld_top, ld_bot]
set_option maxHeartbeats 0 in
theorem o17_B (hc0 : ¬cond0_0 i) (hc1 : cond0_1 i) : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15
    = k0_pay3 (k0_pay9 x6 (top x13) x7 (bot x13) x8 x9 x12 x11) x10 := by
  unfold out0_B_17
  funext y
  frame_open
  have e0 := Memref.IsWhole.read_unread (Val := Elt Ideal) harg1 x0
  generalize harg1.unread x0 = w0 at *
  subst e0
  have e1 := Memref.IsWhole.read_unread (Val := Elt Ideal) harg2 x1
  generalize harg2.unread x1 = w1 at *
  subst e1
  have e2 := Memref.IsWhole.read_unread (Val := Elt Ideal) harg3 x2
  generalize harg3.unread x2 = w2 at *
  subst e2
  have e3 := Memref.IsWhole.read_unread (Val := Elt Ideal) harg4 x3
  generalize harg4.unread x3 = w3 at *
  subst e3
  have e4 := Memref.IsWhole.read_unread (Val := Elt Ideal) harg5 x4
  generalize harg5.unread x4 = w4 at *
  subst e4
  have e5 := Memref.IsWhole.read_unread (Val := Elt Ideal) harg6 x5
  generalize harg6.unread x5 = w5 at *
  subst e5
  have e6 := Memref.IsWhole.read_unread (Val := Elt Ideal) harg7 x6
  generalize harg7.unread x6 = w6 at *
  subst e6
  have e7 := Memref.IsWhole.read_unread (Val := Elt Ideal) harg8 x7
  generalize harg8.unread x7 = w7 at *
  subst e7
  have e8 := Memref.IsWhole.read_unread (Val := Elt Ideal) harg9 x8
  generalize harg9.unread x8 = w8 at *
  subst e8
  have e9 := Memref.IsWhole.read_unread (Val := Elt Ideal) harg10 x9
  generalize harg10.unread x9 = w9 at *
  subst e9
  have e10 := Memref.IsWhole.read_unread (Val := Elt Ideal) harg11 x10
  generalize harg11.unread x10 = w10 at *
  subst e10
  have e11 := Memref.IsWhole.read_unread (Val := Elt Ideal) harg12 x11
  generalize harg12.unread x11 = w11 at *
  subst e11
  have e12 := Memref.IsWhole.read_unread (Val := Elt Ideal) harg13 x12
  generalize harg13.unread x12 = w12 at *
  subst e12
  have e13 := Memref.IsWhole.read_unread (Val := Elt Ideal) harg14 x13
  generalize harg14.unread x13 = w13 at *
  subst e13
  have e14 := Memref.IsWhole.read_unread (Val := Elt Ideal) harg15 x14
  generalize harg15.unread x14 = w14 at *
  subst e14
  have e15 := Memref.IsWhole.read_unread (Val := Elt Ideal) harg16 x15
  generalize harg16.unread x15 = w15 at *
  subst e15
  frame_out
  erw [ld_top, ld_bot]
end

/-! ## What a point reads -/

section
variable (m : (ℓ : Loc nD τ sig) → Buf (Elt Ideal) ℓ) (c : Dev nD)

theorem lt66 (t : Fin cfg0.N) : t.val < 66 := lt_of_lt_of_eq t.isLt N_0

theorem idxA : ∀ t : Fin cfg0.N, t.val < 64 → win0_0.index t = ![t.val, 0] ∧ win0_1.index t = ![t.val, 0] ∧ win0_2.index t = ![t.val, 0] ∧ win0_3.index t = ![t.val / 8, 0, 0] ∧ win0_4.index t = ![t.val / 8, 0, 0] ∧ win0_5.index t = ![t.val / 8, 0, 0] :=
  (by decide +kernel : ∀ t : Fin grid0.N, _)
theorem idxB : ∀ t : Fin cfg0.N, 64 ≤ t.val → win0_6.index t = ![t.val - 64, 0] ∧ win0_7.index t = ![t.val - 64, 0] ∧ win0_8.index t = ![t.val - 64, 0] ∧ win0_9.index t = ![t.val - 64, 0, 0] ∧ win0_10.index t = ![t.val - 64, 0, 0] ∧ win0_11.index t = ![t.val - 64, 0, 0] :=
  (by decide +kernel : ∀ t : Fin grid0.N, _)
theorem idxC : ∀ t : Fin cfg0.N, win0_12.index t = ![0, 0] ∧ win0_13.index t = ![0, 0] ∧ win0_16.index t = ![t.val, 0] ∧ win0_17.index t = ![t.val, 0] :=
  (by decide +kernel : ∀ t : Fin grid0.N, _)

theorem in0 (t : Fin cfg0.N) (h : t.val < 64) (i : Fin 256) (j : Fin 1024) : iblk m c 0 t (ix2 i j) = m ((c : Thread nD τ).loc main_arg0) (ix2 ⟨256 * t.val + i.val, by omega⟩ j) := by
  blk_ext! [iblk, V, idxA t h]
theorem in1 (t : Fin cfg0.N) (h : t.val < 64) (i : Fin 256) (j : Fin 1024) : iblk m c 1 t (ix2 i j) = m ((c : Thread nD τ).loc main_arg1) (ix2 ⟨256 * t.val + i.val, by omega⟩ j) := by
  blk_ext! [iblk, V, idxA t h]
theorem in2 (t : Fin cfg0.N) (h : t.val < 64) (i : Fin 256) (j : Fin 2048) : iblk m c 2 t (ix2 i j) = m ((c : Thread nD τ).loc main_arg2) (ix2 ⟨256 * t.val + i.val, by omega⟩ j) := by
  blk_ext! [iblk, V, idxA t h]
theorem in3 (t : Fin cfg0.N) (h : t.val < 64) (j : Fin 2048) : iblk m c 3 t (ix3 0 0 j) = m ((c : Thread nD τ).loc main_arg3) (ix3 ⟨t.val / 8, by omega⟩ 0 j) := by
  blk_ext! [iblk, V, idxA t h]
theorem in4 (t : Fin cfg0.N) (h : t.val < 64) (j : Fin 2048) : iblk m c 4 t (ix3 0 0 j) = m ((c : Thread nD τ).loc main_arg4) (ix3 ⟨t.val / 8, by omega⟩ 0 j) := by
  blk_ext! [iblk, V, idxA t h]
theorem in5 (t : Fin cfg0.N) (h : t.val < 64) (j : Fin 2048) : iblk m c 5 t (ix3 0 0 j) = m ((c : Thread nD τ).loc main_arg5) (ix3 ⟨t.val / 8, by omega⟩ 0 j) := by
  blk_ext! [iblk, V, idxA t h]
theorem in6 (t : Fin cfg0.N) (h : 64 ≤ t.val) (i : Fin 256) (j : Fin 1024) : iblk m c 6 t (ix2 i j) = m ((c : Thread nD τ).loc main_arg6) (ix2 ⟨256 * (t.val - 64) + i.val, by have := lt66 t; omega⟩ j) := by
  have ht := lt66 t
  blk_ext! [iblk, V, idxB t h]
theorem in7 (t : Fin cfg0.N) (h : 64 ≤ t.val) (i : Fin 256) (j : Fin 1024) : iblk m c 7 t (ix2 i j) = m ((c : Thread nD τ).loc main_arg7) (ix2 ⟨256 * (t.val - 64) + i.val, by have := lt66 t; omega⟩ j) := by
  have ht := lt66 t
  blk_ext! [iblk, V, idxB t h]
theorem in8 (t : Fin cfg0.N) (h : 64 ≤ t.val) (i : Fin 256) (j : Fin 2048) : iblk m c 8 t (ix2 i j) = m ((c : Thread nD τ).loc main_arg8) (ix2 ⟨256 * (t.val - 64) + i.val, by have := lt66 t; omega⟩ j) := by
  have ht := lt66 t
  blk_ext! [iblk, V, idxB t h]
theorem in9 (t : Fin cfg0.N) (h : 64 ≤ t.val) (i : Fin 256) (j : Fin 2048) : iblk m c 9 t (ix3 0 i j) = m ((c : Thread nD τ).loc main_arg9) (ix3 ⟨t.val - 64, by have := lt66 t; omega⟩ i j) := by
  have ht := lt66 t
  blk_ext! [iblk, V, idxB t h]
theorem in10 (t : Fin cfg0.N) (h : 64 ≤ t.val) (i : Fin 256) (j : Fin 2048) : iblk m c 10 t (ix3 0 i j) = m ((c : Thread nD τ).loc main_arg10) (ix3 ⟨t.val - 64, by have := lt66 t; omega⟩ i j) := by
  have ht := lt66 t
  blk_ext! [iblk, V, idxB t h]
theorem in11 (t : Fin cfg0.N) (h : 64 ≤ t.val) (i : Fin 256) (j : Fin 2048) : iblk m c 11 t (ix3 0 i j) = m ((c : Thread nD τ).loc main_arg11) (ix3 ⟨t.val - 64, by have := lt66 t; omega⟩ i j) := by
  have ht := lt66 t
  blk_ext! [iblk, V, idxB t h]
theorem in12 (t : Fin cfg0.N) (j : Fin 2048) : iblk m c 12 t (ix2 0 j) = m ((c : Thread nD τ).loc main_arg12) (ix1 j) := by
  have ht := lt66 t
  blk_ext! [iblk, V, idxC t]
theorem in13 (t : Fin cfg0.N) (i j : Fin 2048) : iblk m c 13 t (ix2 i j) = m ((c : Thread nD τ).loc main_arg13) (ix2 i j) := by
  have ht := lt66 t
  blk_ext! [iblk, V, idxC t]

end

end Cert.Kernel2Ideal.Out
end
-- ==== Proof.OutRun.lean ====
module

public import proofs.«01_k».proof.Proof.OutK

@[expose] public section

set_option maxRecDepth 16384

noncomputable section

open Idealize.ShloMosaic Idealize.ShloMosaic.TcCoe Idealize.SL.Sem
open Idealize.ShloMosaic.Pipeline (Dat)

namespace Cert.Kernel2Ideal.Out
open Cert.Kernel2Ideal Cert.Kernel2Ideal.Gen Cert.Kernel2Ideal.Value

variable (m : (ℓ : Loc nD τ sig) → Buf (Elt Ideal) ℓ) (ρ : Dev nD → PrngReg) (c : Dev nD)

/-- The call's rows, of the arguments. -/
abbrev rowM (r : Fin 16896) : Row := row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) r
abbrev G1M : Vec Ideal S16896x2048 .f32 := G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13))
abbrev G2M : Vec Ideal S16896x2048 .f32 := G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem w_eq (t : Fin cfg0.N) : ent (iblk m c 13 t) = ent (m ((c : Thread nD τ).loc main_arg13)) := by
  funext a b
  exact in13 m c t a b
theorem n_eq (t : Fin cfg0.N) : ent1 (iblk m c 12 t) = nrm (m ((c : Thread nD τ).loc main_arg12)) := by
  funext b
  exact in12 m c t b

theorem tA (t : Fin cfg0.N) (h : t.val < 64) (i : Fin 256) : tileA (iblk m c 0 t) (iblk m c 1 t) (iblk m c 2 t) (iblk m c 3 t) (iblk m c 4 t) (iblk m c 5 t) i = rowM m c ⟨256 * t.val + i.val, by omega⟩ := by
  have e : (⟨(256 * t.val + i.val) / 2048, by omega⟩ : Fin 8) = ⟨t.val / 8, by omega⟩ := Fin.ext (by dsimp only; omega)
  unfold rowM row
  rw [dif_pos (by dsimp only; omega)]
  unfold tileA rowA
  rw [Row.mk.injEq]
  refine ⟨funext fun k => in0 m c t h i k, funext fun k => in1 m c t h i k, funext fun k => in2 m c t h i k, ?_, ?_, ?_⟩
  · funext j
    rw [e]
    exact in3 m c t h j
  · funext j
    rw [e]
    exact in4 m c t h j
  · funext j
    rw [e]
    exact in5 m c t h j
theorem tB (t : Fin cfg0.N) (h : 64 ≤ t.val) (i : Fin 256) : tileB (iblk m c 6 t) (iblk m c 7 t) (iblk m c 8 t) (iblk m c 9 t) (iblk m c 10 t) (iblk m c 11 t) i = rowM m c ⟨256 * t.val + i.val, by have := lt66 t; omega⟩ := by
  have ht := lt66 t
  have e0 : (⟨256 * t.val + i.val - 16384, by omega⟩ : Fin 512) = ⟨256 * (t.val - 64) + i.val, by omega⟩ := Fin.ext (by dsimp only; omega)
  have e : (⟨(256 * (t.val - 64) + i.val) / 256, by omega⟩ : Fin 2) = ⟨t.val - 64, by omega⟩ := Fin.ext (by dsimp only; omega)
  have e' : (⟨(256 * (t.val - 64) + i.val) % 256, by omega⟩ : Fin 256) = i := Fin.ext (by dsimp only; omega)
  unfold rowM row
  rw [dif_neg (by dsimp only; omega)]
  rw [e0]
  unfold tileB rowB
  rw [Row.mk.injEq]
  refine ⟨funext fun k => in6 m c t h i k, funext fun k => in7 m c t h i k, funext fun k => in8 m c t h i k, ?_, ?_, ?_⟩
  · funext j
    rw [e, e']
    exact in9 m c t h i j
  · funext j
    rw [e, e']
    exact in10 m c t h i j
  · funext j
    rw [e, e']
    exact in11 m c t h i j

/-- What a point writes back to the result is the result's block. -/
theorem flushed16_eq (t : Fin cfg0.N) : (dats m 0 c).flushed 16 t = ((cfg0.win 16).blk t).view.read (Elt Ideal) (G1M m c) := by
  have ht := lt66 t
  have hi : win0_16.index t = ![t.val, 0] := by
    have := idxC t
    tauto
  by_cases h : t.val < 64
  all_goals
    first
      | rw [flushed16_A m c t h (by omega), o16_A]
      | rw [flushed16_B m c t h (by omega), o16_B]
    funext y
    have hy0 : (y 0).val < 256 := (y 0).isLt
    have hy1 : (y 1).val < 2048 := (y 1).isLt
    have hb0 : (((cfg0.win 16).blk t).view.emb y 0).val = win0_16.index t (0 : Fin 2) * 256 + 1 * (y 0).val := rfl
    have hb1 : (((cfg0.win 16).blk t).view.emb y 1).val = win0_16.index t (1 : Fin 2) * 2048 + 1 * (y 1).val := rfl
    have hi0 : win0_16.index t (0 : Fin 2) = t.val := by rw [hi]; rfl
    have hi1 : win0_16.index t (1 : Fin 2) = 0 := by rw [hi]; rfl
    have hx : (cfg0.win 16).xinj (grid0.coords t) y = ix2 ⟨(y 0).val, hy0⟩ ⟨(y 1).val, hy1⟩ := by
      funext a
      match a with
      | ⟨0, _⟩ => rfl
      | ⟨1, _⟩ => rfl
    have he : ((cfg0.win 16).blk t).view.emb y = ix2 ⟨256 * t.val + (y 0).val, by omega⟩ ⟨(y 1).val, hy1⟩ := by
      funext a
      apply Fin.ext
      match a with
      | ⟨0, _⟩ => show (((cfg0.win 16).blk t).view.emb y 0).val = 256 * t.val + (y 0).val; rw [hb0]; omega
      | ⟨1, _⟩ => show (((cfg0.win 16).blk t).view.emb y 1).val = (y 1).val; rw [hb1]; omega
  · show k0_pay5 (F := Ideal) _ _ _ _ _ _ ((cfg0.win 16).xinj (grid0.coords t) y) = G1M m c (((cfg0.win 16).blk t).view.emb y)
    rw [hx, he]
    refine (pay5_at (iblk m c 0 t) (iblk m c 1 t) (iblk m c 2 t) (iblk m c 13 t) (iblk m c 3 t) (iblk m c 4 t) (iblk m c 5 t) _ _).trans ?_
    rw [tA m c t h, w_eq]
    rfl
  · show k0_pay8 (F := Ideal) _ _ _ _ _ _ ((cfg0.win 16).xinj (grid0.coords t) y) = G1M m c (((cfg0.win 16).blk t).view.emb y)
    rw [hx, he]
    refine (pay8_at (iblk m c 6 t) (iblk m c 7 t) (iblk m c 8 t) (iblk m c 13 t) (iblk m c 9 t) (iblk m c 10 t) (iblk m c 11 t) _ _).trans ?_
    rw [tB m c t (by omega), w_eq]
    rfl

/-- An index is in a point's block iff its row is in the point's tile. -/
theorem mem16 (t : Fin cfg0.N) (i : S16896x2048.Idx) :
    i ∈ ((cfg0.win 16).blk t).view.set ↔ ∀ a : Fin 2, win0_16.index t a * S256x2048.size a ≤ (i a).val ∧ (i a).val < win0_16.index t a * S256x2048.size a + S256x2048.size a := by
  show i ∈ ((View.whole main_v1_0).slice (win0_16.rect t)).set ↔ _
  rw [View.set_slice_whole, Rect.mem_set_unit]
  exact Iff.rfl

theorem flush16 : ∀ t : Fin cfg0.N, (cfg0.win 16).flush t = true := (by decide +kernel : ∀ t : Fin grid0.N, win0_16.flush t = true)

theorem final16 : (dats m 0 c).arrAt 16 cfg0.N = G1M m c :=
  (dats m 0 c).arrAt_eq_of_cover 16 _ (fun t hf => flushed16_eq m c t) (fun i => by
    have h0 : (i 0).val < 16896 := (i 0).isLt
    have h1 : (i 1).val < 2048 := (i 1).isLt
    have hN : (i 0).val / 256 < cfg0.N := lt_of_lt_of_eq (by omega) N_0.symm
    have hi : win0_16.index ⟨(i 0).val / 256, hN⟩ = ![(i 0).val / 256, 0] := by
      have := idxC ⟨(i 0).val / 256, hN⟩
      tauto
    have q0 : win0_16.index ⟨(i 0).val / 256, hN⟩ (0 : Fin 2) = (i 0).val / 256 := by rw [hi]; rfl
    have q1 : win0_16.index ⟨(i 0).val / 256, hN⟩ (1 : Fin 2) = 0 := by rw [hi]; rfl
    refine ⟨⟨(i 0).val / 256, hN⟩, flush16 _, ?_⟩
    rw [mem16]
    intro a
    match a with
    | ⟨0, _⟩ => show win0_16.index _ (0 : Fin 2) * 256 ≤ (i 0).val ∧ (i 0).val < win0_16.index _ (0 : Fin 2) * 256 + 256; rw [q0]; omega
    | ⟨1, _⟩ => show win0_16.index _ (1 : Fin 2) * 2048 ≤ (i 1).val ∧ (i 1).val < win0_16.index _ (1 : Fin 2) * 2048 + 2048; rw [q1]; omega)

/-- What a point writes back to the result is the result's block. -/
theorem flushed17_eq (t : Fin cfg0.N) : (dats m 0 c).flushed 17 t = ((cfg0.win 17).blk t).view.read (Elt Ideal) (G2M m c) := by
  have ht := lt66 t
  have hi : win0_17.index t = ![t.val, 0] := by
    have := idxC t
    tauto
  by_cases h : t.val < 64
  all_goals
    first
      | rw [flushed17_A m c t h (by omega), o17_A]
      | rw [flushed17_B m c t h (by omega), o17_B]
    funext y
    have hy0 : (y 0).val < 256 := (y 0).isLt
    have hy1 : (y 1).val < 2048 := (y 1).isLt
    have hb0 : (((cfg0.win 17).blk t).view.emb y 0).val = win0_17.index t (0 : Fin 2) * 256 + 1 * (y 0).val := rfl
    have hb1 : (((cfg0.win 17).blk t).view.emb y 1).val = win0_17.index t (1 : Fin 2) * 2048 + 1 * (y 1).val := rfl
    have hi0 : win0_17.index t (0 : Fin 2) = t.val := by rw [hi]; rfl
    have hi1 : win0_17.index t (1 : Fin 2) = 0 := by rw [hi]; rfl
    have hx : (cfg0.win 17).xinj (grid0.coords t) y = ix2 ⟨(y 0).val, hy0⟩ ⟨(y 1).val, hy1⟩ := by
      funext a
      match a with
      | ⟨0, _⟩ => rfl
      | ⟨1, _⟩ => rfl
    have he : ((cfg0.win 17).blk t).view.emb y = ix2 ⟨256 * t.val + (y 0).val, by omega⟩ ⟨(y 1).val, hy1⟩ := by
      funext a
      apply Fin.ext
      match a with
      | ⟨0, _⟩ => show (((cfg0.win 17).blk t).view.emb y 0).val = 256 * t.val + (y 0).val; rw [hb0]; omega
      | ⟨1, _⟩ => show (((cfg0.win 17).blk t).view.emb y 1).val = (y 1).val; rw [hb1]; omega
  · show k0_pay1 (F := Ideal) _ _ _ ((cfg0.win 17).xinj (grid0.coords t) y) = G2M m c (((cfg0.win 17).blk t).view.emb y)
    rw [hx, he]
    refine (pay1_at (iblk m c 0 t) (iblk m c 1 t) (iblk m c 2 t) (iblk m c 13 t) (iblk m c 12 t) (iblk m c 3 t) (iblk m c 4 t) (iblk m c 5 t) _ _).trans ?_
    rw [tA m c t h, w_eq, n_eq]
    rfl
  · show k0_pay3 (F := Ideal) _ _ ((cfg0.win 17).xinj (grid0.coords t) y) = G2M m c (((cfg0.win 17).blk t).view.emb y)
    rw [hx, he]
    refine (pay3_at (iblk m c 6 t) (iblk m c 7 t) (iblk m c 8 t) (iblk m c 13 t) (iblk m c 12 t) (iblk m c 9 t) (iblk m c 10 t) (iblk m c 11 t) _ _).trans ?_
    rw [tB m c t (by omega), w_eq, n_eq]
    rfl

/-- An index is in a point's block iff its row is in the point's tile. -/
theorem mem17 (t : Fin cfg0.N) (i : S16896x2048.Idx) :
    i ∈ ((cfg0.win 17).blk t).view.set ↔ ∀ a : Fin 2, win0_17.index t a * S256x2048.size a ≤ (i a).val ∧ (i a).val < win0_17.index t a * S256x2048.size a + S256x2048.size a := by
  show i ∈ ((View.whole main_v1_1).slice (win0_17.rect t)).set ↔ _
  rw [View.set_slice_whole, Rect.mem_set_unit]
  exact Iff.rfl

theorem flush17 : ∀ t : Fin cfg0.N, (cfg0.win 17).flush t = true := (by decide +kernel : ∀ t : Fin grid0.N, win0_17.flush t = true)

theorem final17 : (dats m 0 c).arrAt 17 cfg0.N = G2M m c :=
  (dats m 0 c).arrAt_eq_of_cover 17 _ (fun t hf => flushed17_eq m c t) (fun i => by
    have h0 : (i 0).val < 16896 := (i 0).isLt
    have h1 : (i 1).val < 2048 := (i 1).isLt
    have hN : (i 0).val / 256 < cfg0.N := lt_of_lt_of_eq (by omega) N_0.symm
    have hi : win0_17.index ⟨(i 0).val / 256, hN⟩ = ![(i 0).val / 256, 0] := by
      have := idxC ⟨(i 0).val / 256, hN⟩
      tauto
    have q0 : win0_17.index ⟨(i 0).val / 256, hN⟩ (0 : Fin 2) = (i 0).val / 256 := by rw [hi]; rfl
    have q1 : win0_17.index ⟨(i 0).val / 256, hN⟩ (1 : Fin 2) = 0 := by rw [hi]; rfl
    refine ⟨⟨(i 0).val / 256, hN⟩, flush17 _, ?_⟩
    rw [mem17]
    intro a
    match a with
    | ⟨0, _⟩ => show win0_17.index _ (0 : Fin 2) * 256 ≤ (i 0).val ∧ (i 0).val < win0_17.index _ (0 : Fin 2) * 256 + 256; rw [q0]; omega
    | ⟨1, _⟩ => show win0_17.index _ (1 : Fin 2) * 2048 ≤ (i 1).val ∧ (i 1).val < win0_17.index _ (1 : Fin 2) * 2048 + 2048; rw [q1]; omega)

end Cert.Kernel2Ideal.Out
end
-- ==== Proof.OutClaim.lean ====
module

public import proofs.«01_k».proof.Defs
public import proofs.«01_k».proof.Proof.OutRef
public import proofs.«01_k».proof.Proof.OutRun

@[expose] public section

set_option maxRecDepth 16384

noncomputable section

open Idealize.ShloMosaic Idealize.ShloMosaic.TcCoe Idealize.SL.Sem

namespace Cert.Proof

/-- The output projection and its reference end with the same results. -/
theorem algebraic2 : Cert.algebraic_Kernel2Ideal_Reference2Ideal (hKernel2Ideal := Cert.Kernel2Ideal.Gen.facts) (hReference2Ideal := Cert.Reference2Ideal.Gen.facts) := by
  intro m g m' g' _ ha
  refine ⟨fun c => Cert.Kernel2Ideal.Out.G1M m c, fun c => Cert.Kernel2Ideal.Out.G2M m c, ?_, ?_⟩
  · refine (θ_run (Cert.Kernel2Ideal.defs (F := Ideal)) _ _).mono (fun r h c => ?_) (Cert.Kernel2Ideal.Value.run_blocks m g)
    obtain ⟨h0, h1, _, hk⟩ := h c
    exact ⟨h0.trans (Cert.Kernel2Ideal.Out.final16 m c), h1.trans (Cert.Kernel2Ideal.Out.final17 m c), hk⟩
  · refine (θ_run (Cert.Reference2Ideal.defs (F := Ideal)) _ _).mono (fun r h c => ?_) (Cert.Reference2Ideal.Value.run m' g')
    obtain ⟨h0, h1, hk⟩ := h c
    obtain ⟨a0, a1, a2, a3, a4, a5, a6, a7, a8, a9, a10, a11, a12, a13, a14, a15⟩ := ha c
    refine ⟨h0.trans ?_, h1.trans ?_, hk⟩
    · refine (Cert.Reference2Ideal.Out.res57_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13))).trans ?_
      rw [a0, a1, a2, a3, a4, a5, a6, a7, a8, a9, a10, a11, a13]
    · refine (Cert.Reference2Ideal.Out.res58_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13))).trans ?_
      rw [a0, a1, a2, a3, a4, a5, a6, a7, a8, a9, a10, a11, a12, a13]

theorem no_sem2 (s : SemLoc Cert.Reference2Ideal.sig) : False := by
  rcases s with s | s <;> exact s.elim0
/-- The reference leaves its arguments. -/
theorem frame2 : Cert.quiescent_Reference2Ideal (hReference2Ideal := Cert.Reference2Ideal.Gen.facts) := by
  intro m g _
  exact (θ_run (Cert.Reference2Ideal.defs (F := Ideal)) _ _).mono (fun r h => ⟨fun c => (h c).2.2, funext fun g => (no_sem2 g.2).elim⟩) (Cert.Reference2Ideal.Value.run m g)

end Cert.Proof
end
-- ==== Proof.In.lean ====
module

public import proofs.«01_k».proof.Proof.Gen.Kernel3Ideal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.In
open Cert.Kernel3Ideal Cert.Kernel3Ideal.Gen Cert.Kernel3Ideal.Value

/-- A row's modulated norm, of the row, its shift, its scale and the norm's weight. -/
def hrow (x sh sc nw : Fin 2048 → EReal) (j : Fin 2048) : EReal :=
  x j * Ideal.rsqrt (Ideal.div (∑ k : Fin 2048, x k * x k) (Ideal.ofBits FTy.f32 0x45000000#32) + Ideal.ofBits FTy.f32 0x358637BD#32) * nw j
    * (1 + sc j) + sh j
/-- The row's projection. -/
def prow (x sh sc nw : Fin 2048 → EReal) (w : Fin 2048 → EReal) : EReal := ∑ k : Fin 2048, hrow x sh sc nw k * w k

/-- The result by rows and columns. -/
def G (a0 : Vec Ideal S16384x2048 .f32) (a1 a2 : Vec Ideal S8x1x2048 .f32) (a3 : Vec Ideal S2048 .f32) (a4 : Vec Ideal S2048x6912 .bf16) : Vec Ideal S16384x6912 .f32 := fun i =>
  prow (fun k => a0 (ix2 (i 0) k)) (fun k => a1 (ix3 ⟨(i 0).val / 2048, by have := (i 0).isLt; simp at this; omega⟩ 0 k))
    (fun k => a2 (ix3 ⟨(i 0).val / 2048, by have := (i 0).isLt; simp at this; omega⟩ 0 k)) (fun k => a3 (ix1 k)) (fun k => a4 (ix2 k (i 1)))

/-! ## What a tile stores -/

section
variable (x0 : Vec Ideal S256x2048 .f32) (x1 x2 : Vec Ideal S1x1x2048 .f32) (x3 : Vec Ideal S1x2048 .f32) (x4 : Vec Ideal S2048x6912 .bf16)

/-- Row `i` of a tile, projected on column `j`. -/
def tile (i : Fin 256) (j : Fin 6912) : EReal :=
  prow (fun k => x0 (ix2 i k)) (fun k => x1 (ix3 0 0 k)) (fun k => x2 (ix3 0 0 k)) (fun k => x3 (ix2 0 k)) (fun k => x4 (ix2 k j))

theorem ld0 (h) : View.ld x0 (Rect.unit (s := S256x2048) ![0, 0] S256x2048.size h) = x0 := by
  funext y
  refine congrArg x0 (funext fun a => Fin.ext ?_)
  match a with
  | ⟨0, _⟩ => show 0 + 1 * (y 0).val = (y 0).val; omega
  | ⟨1, _⟩ => show 0 + 1 * (y 1).val = (y 1).val; omega
theorem ld3 (h) : View.ld x3 (Rect.unit (s := S1x2048) ![0, 0] S1x2048.size h) = x3 := by
  funext y
  refine congrArg x3 (funext fun a => Fin.ext ?_)
  match a with
  | ⟨0, _⟩ => show 0 + 1 * (y 0).val = (y 0).val; omega
  | ⟨1, _⟩ => show 0 + 1 * (y 1).val = (y 1).val; omega
theorem ld1 (h) : View.ld x1 (Rect.unit (s := S1x1x2048) ![0, 0, 0] S1x1x2048.size h) = x1 := by
  funext y
  refine congrArg x1 (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
/-- A block of the weight's columns. -/
theorem ld4 (o : ℕ) (ho : o + 1152 ≤ 6912) (h) (k : Fin 2048) (b : Fin 1152) :
    View.ld x4 (Rect.unit (s := S2048x6912) ![0, o] S2048x1152.size h) (ix2 k b) = x4 (ix2 k ⟨o + b.val, by omega⟩) := by
  refine congrArg x4 (funext fun a => Fin.ext ?_)
  match a with
  | ⟨0, _⟩ => show 0 + 1 * k.val = k.val; omega
  | ⟨1, _⟩ => show o + 1 * b.val = o + b.val; omega

theorem pay5_at (i : Fin 256) (k : Fin 2048) : k0_pay5 x0 x3 x2 x1 (ix2 i k)
    = hrow (fun k => x0 (ix2 i k)) (fun k => x1 (ix3 0 0 k)) (fun k => x2 (ix3 0 0 k)) (fun k => x3 (ix2 0 k)) k := by
  pointwise [k0_pay5]
  rfl

section
variable (v : FVec Ideal S256x2048 .bf16) (w : Vec Ideal S2048x1152 .bf16) (i : Fin 256) (b : Fin 1152)
theorem pay1_at : k0_pay1 v w (ix2 i b) = ∑ k : Fin 2048, v (ix2 i k) * w (ix2 k b) := by pointwise [k0_pay1]
theorem pay2_at : k0_pay2 v w (ix2 i b) = ∑ k : Fin 2048, v (ix2 i k) * w (ix2 k b) := by pointwise [k0_pay2]
theorem pay3_at : k0_pay3 v w (ix2 i b) = ∑ k : Fin 2048, v (ix2 i k) * w (ix2 k b) := by pointwise [k0_pay3]
theorem pay4_at : k0_pay4 v w (ix2 i b) = ∑ k : Fin 2048, v (ix2 i k) * w (ix2 k b) := by pointwise [k0_pay4]
theorem pay6_at : k0_pay6 x0 x3 x2 x1 w (ix2 i b) = ∑ k : Fin 2048, k0_pay5 x0 x3 x2 x1 (ix2 i k) * w (ix2 k b) := by pointwise [k0_pay6]
theorem pay7_at : k0_pay7 x0 x3 x2 x1 w (ix2 i b) = ∑ k : Fin 2048, k0_pay5 x0 x3 x2 x1 (ix2 i k) * w (ix2 k b) := by pointwise [k0_pay7]
end

/-- A column block's entry is the tile's. -/
theorem piece_at (o : ℕ) (ho : o + 1152 ≤ 6912) (h) (i i' : Fin 256) (b : Fin 1152) (j : Fin 6912) (hi : i'.val = i.val) (hj : j.val = o + b.val) :
    (∑ k : Fin 2048, k0_pay5 x0 x3 x2 x1 (ix2 i k) * View.ld x4 (Rect.unit (s := S2048x6912) ![0, o] S2048x1152.size h) (ix2 k b)) = tile x0 x1 x2 x3 x4 i' j := by
  obtain rfl : i' = i := Fin.ext hi
  rw [show j = ⟨o + b.val, by omega⟩ from Fin.ext hj]
  unfold tile prow
  refine Finset.sum_congr rfl fun k _ => ?_
  rw [pay5_at, ld4 x4 o ho]

theorem out_at (y : S256x6912.Idx) : out0_5 x0 x1 x2 x3 x4 y = tile x0 x1 x2 x3 x4 (y 0) (y 1) := by
  unfold out0_5 k0_pay8
  rw [ld0, ld3, ld1, ld1]
  canon_tiles x h
  all_goals
    obtain ⟨a, b, rfl⟩ : ∃ (a : Fin 256) (b : Fin 1152), x = ix2 a b := ⟨x 0, x 1, by funext q; fin_cases q <;> rfl⟩
  · exact (pay4_at _ _ a b).trans (piece_at x0 x1 x2 x3 x4 5760 (by omega) _ a _ b _ (by simp at h0 ⊢; omega) (by simp at h1 ⊢; omega))
  · exact (pay3_at _ _ a b).trans (piece_at x0 x1 x2 x3 x4 4608 (by omega) _ a _ b _ (by simp at h0 ⊢; omega) (by simp at h1 ⊢; omega))
  · exact (pay2_at _ _ a b).trans (piece_at x0 x1 x2 x3 x4 3456 (by omega) _ a _ b _ (by simp at h0 ⊢; omega) (by simp at h1 ⊢; omega))
  · exact (pay1_at _ _ a b).trans (piece_at x0 x1 x2 x3 x4 2304 (by omega) _ a _ b _ (by simp at h0 ⊢; omega) (by simp at h1 ⊢; omega))
  · exact (pay7_at x0 x1 x2 x3 _ a b).trans (piece_at x0 x1 x2 x3 x4 1152 (by omega) _ a _ b _ (by simp at h0 ⊢; omega) (by simp at h1 ⊢; omega))
  · exact (pay6_at x0 x1 x2 x3 _ a b).trans (piece_at x0 x1 x2 x3 x4 0 (by omega) _ a _ b _ (by simp at h0 ⊢; omega) (by simp at h1 ⊢; omega))
end

/-! ## What a point reads and writes back -/

section
variable (m : (ℓ : Loc nD τ sig) → Buf (Elt Ideal) ℓ) (c : Dev nD)

/-- The result, of the call's arguments. -/
abbrev GM : Vec Ideal S16384x6912 .f32 := G (m ((c : Thread nD τ).loc main_arg0)) (m ((c : Thread nD τ).loc main_arg1)) (m ((c : Thread nD τ).loc main_arg2)) (m ((c : Thread nD τ).loc main_arg3)) (m ((c : Thread nD τ).loc main_arg4))

theorem lt64 (t : Fin cfg0.N) : t.val < 64 := lt_of_lt_of_eq t.isLt N_0

theorem idxs : ∀ t : Fin cfg0.N, win0_0.index t = ![t.val, 0] ∧ win0_1.index t = ![t.val / 8, 0, 0] ∧ win0_2.index t = ![t.val / 8, 0, 0] ∧ win0_3.index t = ![0, 0] ∧ win0_4.index t = ![0, 0] ∧ win0_5.index t = ![t.val, 0] :=
  (by decide +kernel : ∀ t : Fin grid0.N, _)

theorem in0 (t : Fin cfg0.N) (i : Fin 256) (j : Fin 2048) : iblk m c 0 t (ix2 i j) = m ((c : Thread nD τ).loc main_arg0) (ix2 ⟨256 * t.val + i.val, by have := lt64 t; omega⟩ j) := by
  have ht := lt64 t
  blk_ext! [iblk, V, idxs t]
theorem in1 (t : Fin cfg0.N) (j : Fin 2048) : iblk m c 1 t (ix3 0 0 j) = m ((c : Thread nD τ).loc main_arg1) (ix3 ⟨t.val / 8, by have := lt64 t; omega⟩ 0 j) := by
  have ht := lt64 t
  blk_ext! [iblk, V, idxs t]
theorem in2 (t : Fin cfg0.N) (j : Fin 2048) : iblk m c 2 t (ix3 0 0 j) = m ((c : Thread nD τ).loc main_arg2) (ix3 ⟨t.val / 8, by have := lt64 t; omega⟩ 0 j) := by
  have ht := lt64 t
  blk_ext! [iblk, V, idxs t]
theorem in3 (t : Fin cfg0.N) (j : Fin 2048) : iblk m c 3 t (ix2 0 j) = m ((c : Thread nD τ).loc main_arg3) (ix1 j) := by
  have ht := lt64 t
  blk_ext! [iblk, V, idxs t]
theorem in4 (t : Fin cfg0.N) (i : Fin 2048) (j : Fin 6912) : iblk m c 4 t (ix2 i j) = m ((c : Thread nD τ).loc main_arg4) (ix2 i j) := by
  have ht := lt64 t
  blk_ext! [iblk, V, idxs t]

theorem tile_eq (t : Fin cfg0.N) (i : Fin 256) (j : Fin 6912) : tile (iblk m c 0 t) (iblk m c 1 t) (iblk m c 2 t) (iblk m c 3 t) (iblk m c 4 t) i j
    = GM m c (ix2 ⟨256 * t.val + i.val, by have := lt64 t; omega⟩ j) := by
  have ht := lt64 t
  have e : (⟨(256 * t.val + i.val) / 2048, by omega⟩ : Fin 8) = ⟨t.val / 8, by omega⟩ := Fin.ext (by dsimp only; omega)
  show _ = prow (fun k => m ((c : Thread nD τ).loc main_arg0) (ix2 ⟨256 * t.val + i.val, by omega⟩ k)) (fun k => m ((c : Thread nD τ).loc main_arg1) (ix3 ⟨(256 * t.val + i.val) / 2048, by omega⟩ 0 k))
    (fun k => m ((c : Thread nD τ).loc main_arg2) (ix3 ⟨(256 * t.val + i.val) / 2048, by omega⟩ 0 k)) (fun k => m ((c : Thread nD τ).loc main_arg3) (ix1 k)) (fun k => m ((c : Thread nD τ).loc main_arg4) (ix2 k j))
  rw [e]
  unfold tile
  congr 1
  · funext k; exact in0 m c t i k
  · funext k; exact in1 m c t k
  · funext k; exact in2 m c t k
  · funext k; exact in3 m c t k
  · funext k; exact in4 m c t k j

/-- What a point writes back to the result is the result's block. -/
theorem flushed_eq (t : Fin cfg0.N) : (dats m 0 c).flushed 5 t = ((cfg0.win 5).blk t).view.read (Elt Ideal) (GM m c) := by
  have ht := lt64 t
  have hi : win0_5.index t = ![t.val, 0] := (idxs t).2.2.2.2.2
  rw [flushed5 m c t]
  funext y
  have hy0 : (y 0).val < 256 := (y 0).isLt
  have hy1 : (y 1).val < 6912 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 6912 + 1 * (y 1).val := rfl
  have hi0 : win0_5.index t (0 : Fin 2) = t.val := by rw [hi]; rfl
  have hi1 : win0_5.index t (1 : Fin 2) = 0 := by rw [hi]; rfl
  have hx : (cfg0.win 5).xinj (grid0.coords t) y = ix2 ⟨(y 0).val, hy0⟩ ⟨(y 1).val, hy1⟩ := by
    funext a
    match a with
    | ⟨0, _⟩ => rfl
    | ⟨1, _⟩ => rfl
  have he : ((cfg0.win 5).blk t).view.emb y = ix2 ⟨256 * t.val + (y 0).val, by omega⟩ ⟨(y 1).val, hy1⟩ := by
    funext a
    apply Fin.ext
    match a with
    | ⟨0, _⟩ => show (((cfg0.win 5).blk t).view.emb y 0).val = 256 * t.val + (y 0).val; rw [hb0]; omega
    | ⟨1, _⟩ => show (((cfg0.win 5).blk t).view.emb y 1).val = (y 1).val; rw [hb1]; omega
  show out0_5 (F := Ideal) _ _ _ _ _ ((cfg0.win 5).xinj (grid0.coords t) y) = GM m c (((cfg0.win 5).blk t).view.emb y)
  rw [hx, he, out_at]
  exact tile_eq m c t ⟨(y 0).val, hy0⟩ ⟨(y 1).val, hy1⟩

/-- An index is in a point's block iff its row is in the point's tile. -/
theorem mem5 (t : Fin cfg0.N) (i : S16384x6912.Idx) :
    i ∈ ((cfg0.win 5).blk t).view.set ↔ ∀ a : Fin 2, win0_5.index t a * S256x6912.size a ≤ (i a).val ∧ (i a).val < win0_5.index t a * S256x6912.size a + S256x6912.size a := by
  show i ∈ ((View.whole main_v1).slice (win0_5.rect t)).set ↔ _
  rw [View.set_slice_whole, Rect.mem_set_unit]
  exact Iff.rfl

theorem flush5 : ∀ t : Fin cfg0.N, (cfg0.win 5).flush t = true := (by decide +kernel : ∀ t : Fin grid0.N, win0_5.flush t = true)

theorem final5 : (dats m 0 c).arrAt 5 cfg0.N = GM m c :=
  (dats m 0 c).arrAt_eq_of_cover 5 _ (fun t hf => flushed_eq m c t) (fun i => by
    have h0 : (i 0).val < 16384 := (i 0).isLt
    have h1 : (i 1).val < 6912 := (i 1).isLt
    have hN : (i 0).val / 256 < cfg0.N := lt_of_lt_of_eq (by omega) N_0.symm
    have hi : win0_5.index ⟨(i 0).val / 256, hN⟩ = ![(i 0).val / 256, 0] := (idxs ⟨(i 0).val / 256, hN⟩).2.2.2.2.2
    have q0 : win0_5.index ⟨(i 0).val / 256, hN⟩ (0 : Fin 2) = (i 0).val / 256 := by rw [hi]; rfl
    have q1 : win0_5.index ⟨(i 0).val / 256, hN⟩ (1 : Fin 2) = 0 := by rw [hi]; rfl
    refine ⟨⟨(i 0).val / 256, hN⟩, flush5 _, ?_⟩
    rw [mem5]
    intro a
    match a with
    | ⟨0, _⟩ => show win0_5.index _ (0 : Fin 2) * 256 ≤ (i 0).val ∧ (i 0).val < win0_5.index _ (0 : Fin 2) * 256 + 256; rw [q0]; omega
    | ⟨1, _⟩ => show win0_5.index _ (1 : Fin 2) * 6912 ≤ (i 1).val ∧ (i 1).val < win0_5.index _ (1 : Fin 2) * 6912 + 6912; rw [q1]; omega)
end

end Cert.Kernel3Ideal.In
end
-- ==== Proof.InClaim.lean ====
module

public import proofs.«01_k».proof.Defs
public import proofs.«01_k».proof.Proof.In
public import proofs.«01_k».proof.Proof.Gen.Reference3Ideal.Run

@[expose] public section

set_option maxRecDepth 16384

noncomputable section

open Idealize.ShloMosaic Idealize.ShloMosaic.TcCoe Idealize.SL.Sem

namespace Cert.Reference3Ideal.In
open Cert.Reference3Ideal Cert.Reference3Ideal.Gen Cert.Reference3Ideal.Value
open Cert.Kernel3Ideal.In (hrow prow G)

/-- The modulated norm. -/
def H (a0 : FVec Ideal S16384x2048 .f32) (a1 a2 : FVec Ideal S8x1x2048 .f32) (a3 : FVec Ideal S2048 .f32) : FVec Ideal S8x2048x2048 .f32 := (addf (mulf (mulf (mulf (shapeCast _ a0 shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ a0 shapeCasts_S16384x2048_S8x2048x2048) (shapeCast _ a0 shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a3))) (broadcastInDim S8x2048x2048 ![0, 1, 2] bcast_S8x1x2048_S8x2048x2048_0_1_2 (addf (broadcastInDim S8x1x2048 ![] bcast_S_S8x1x2048 (constant S_ .f32 0x3F800000#32)) a2))) (broadcastInDim S8x2048x2048 ![0, 1, 2] bcast_S8x1x2048_S8x2048x2048_0_1_2 a1))
/-- The result. -/
def res (a0 : FVec Ideal S16384x2048 .f32) (a1 a2 : FVec Ideal S8x1x2048 .f32) (a3 : FVec Ideal S2048 .f32) (a4 : FVec Ideal S2048x6912 .bf16) : FVec Ideal S16384x6912 .f32 := shapeCast _ (Host.dotGeneral dot_S8x2048x2048_S2048x6912_S8x2048x6912_2_0_01_1_n_n none (H a0 a1 a2 a3) (extf .f32 a4 bitsLt_bf16_f32)) shapeCasts_S8x2048x6912_S16384x6912

variable (a0 : FVec Ideal S16384x2048 .f32) (a1 a2 : FVec Ideal S8x1x2048 .f32) (a3 : FVec Ideal S2048 .f32) (a4 : FVec Ideal S2048x6912 .bf16)

theorem H_at (b : Fin 8) (t : Fin 2048) (k : Fin 2048) : H a0 a1 a2 a3 (ix3 b t k)
    = hrow (fun k => a0 (ix2 ⟨2048 * b.val + t.val, by omega⟩ k)) (fun k => a1 (ix3 b 0 k)) (fun k => a2 (ix3 b 0 k)) (fun k => a3 (ix1 k)) k := by
  pointwise [H]
  simp only [Nat.mul_comm b.val 2048]
  rfl
theorem res_at (r : Fin 16384) (j : Fin 6912) : res a0 a1 a2 a3 a4 (ix2 r j)
    = ∑ k : Fin 2048, H a0 a1 a2 a3 (ix3 ⟨r.val / 2048, by omega⟩ ⟨r.val % 2048, by omega⟩ k) * a4 (ix2 k j) := by
  pointwise [res]
theorem res_eq : res a0 a1 a2 a3 a4 = G a0 a1 a2 a3 a4 := by
  funext i
  obtain ⟨r, l, rfl⟩ : ∃ (r : Fin 16384) (l : Fin 6912), i = ix2 r l := ⟨i 0, i 1, by funext a; fin_cases a <;> rfl⟩
  have e : (⟨2048 * (r.val / 2048) + r.val % 2048, by omega⟩ : Fin 16384) = r := Fin.ext (by dsimp only; omega)
  rw [res_at]
  unfold G prow
  refine Finset.sum_congr rfl fun k _ => ?_
  rw [H_at]
  simp only [e]
  rfl

end Cert.Reference3Ideal.In

namespace Cert.Proof

/-- The input projection and its reference end with the same result. -/
theorem algebraic3 : Cert.algebraic_Kernel3Ideal_Reference3Ideal (hKernel3Ideal := Cert.Kernel3Ideal.Gen.facts) (hReference3Ideal := Cert.Reference3Ideal.Gen.facts) := by
  intro m g m' g' _ ha
  refine ⟨fun c => Cert.Kernel3Ideal.In.GM m c, ?_, ?_⟩
  · refine (θ_run (Cert.Kernel3Ideal.defs (F := Ideal)) _ _).mono (fun r h c => ?_) (Cert.Kernel3Ideal.Value.run_blocks m g)
    obtain ⟨h0, hk⟩ := h c
    exact ⟨h0.trans (Cert.Kernel3Ideal.In.final5 m c), hk⟩
  · refine (θ_run (Cert.Reference3Ideal.defs (F := Ideal)) _ _).mono (fun r h c => ?_) (Cert.Reference3Ideal.Value.run m' g')
    obtain ⟨h0, hk⟩ := h c
    obtain ⟨e0, e1, e2, e3, e4⟩ := ha c
    refine ⟨h0.trans ?_, hk⟩
    refine (Cert.Reference3Ideal.In.res_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))).trans ?_
    rw [e0, e1, e2, e3, e4]

theorem no_sem3 (s : SemLoc Cert.Reference3Ideal.sig) : False := by
  rcases s with s | s <;> exact s.elim0
/-- The reference leaves its arguments. -/
theorem frame3 : Cert.quiescent_Reference3Ideal (hReference3Ideal := Cert.Reference3Ideal.Gen.facts) := by
  intro m g _
  exact (θ_run (Cert.Reference3Ideal.defs (F := Ideal)) _ _).mono (fun r h => ⟨fun c => (h c).2, funext fun g => (no_sem3 g.2).elim⟩) (Cert.Reference3Ideal.Value.run m g)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Ref
public import proofs.«01_k».proof.Proof.OutClaim
public import proofs.«01_k».proof.Proof.InClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, pre_facts, by
  exact ⟨fun m ρ _ => Cert.Kernel.Gen.frame m ρ, fun m ρ _ => Cert.KernelIdeal.Gen.frame m ρ, fun m ρ _ => Cert.KernelIdeal.Gen.frame m ρ,
    fun m ρ _ => Cert.ReferenceIdeal.Value.frame m ρ, fun m ρ _ => Cert.ReferenceIdeal.Value.frame m ρ,
    fun m ρ _ => Cert.Kernel2.Gen.frame m ρ, fun m ρ _ => Cert.Kernel2Ideal.Gen.frame m ρ, frame2,
    fun m ρ _ => Cert.Kernel3.Gen.frame m ρ, fun m ρ _ => Cert.Kernel3Ideal.Gen.frame m ρ, frame3,
    trivial, algebraic, trivial, algebraic2, trivial, algebraic3⟩⟩

end Cert.Proof

end
